-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[2], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![2048, 2048]⟩ (Layout.meshBlock [2, 4, 4] ![[2], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![128, 2048]⟩ ⟨2, ![512, 2048]⟩ (Layout.meshBlock [2, 4, 4] ![[2], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S128x2048 : Shape := ⟨2, ![128, 2048]⟩
abbrev S3x128x2048 : Shape := ⟨3, ![3, 128, 2048]⟩
abbrev S12 : Shape := ⟨1, ![12]⟩
abbrev S_ : Shape := ⟨0, ![]⟩
abbrev S32x2048 : Shape := ⟨2, ![32, 2048]⟩
abbrev S1x32x2048 : Shape := ⟨3, ![1, 32, 2048]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .bf16⟩
  | .hbm, ⟨1, _⟩ => ⟨S512x2048, .bf16⟩
  | .hbm, ⟨2, _⟩ => ⟨S128x2048, .f32⟩
  | .local _ .vmem, ⟨0, _⟩ => ⟨S512x512, .bf16⟩
  | .local _ .vmem, ⟨1, _⟩ => ⟨S512x2048, .bf16⟩
  | .local _ .vmem, ⟨2, _⟩ => ⟨S128x2048, .f32⟩
  | .local _ .vmem, ⟨3, _⟩ => ⟨S512x2048, .f32⟩
  | .local _ .vmem, ⟨4, _⟩ => ⟨S3x128x2048, .bf16⟩
  | .local _ .vmem, ⟨5, _⟩ => ⟨S3x128x2048, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_8 : BitVec 32 := 16#32
  let v15 : BitVec 32 := Scalar.muli v2 c16_i32_8
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_9 : BitVec 32 := 4#32
  let v17 : BitVec 32 := Scalar.muli v5 c4_i32_9
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_2 : BitVec 32 := 4#32
  let v9 : BitVec 32 := Scalar.addi v8 c4_i32_2
  let c1_i32_3 : BitVec 32 := 1#32
  let v10 : BitVec 32 := Scalar.subi v9 c1_i32_3
  let c4_i32_4 : BitVec 32 := 4#32
  let v11 : BitVec 32 := Scalar.remsi v10 c4_i32_4
  let c1_i32_10 : BitVec 32 := 1#32
  let v19 : BitVec 32 := Scalar.muli v11 c1_i32_10
  let v20 : BitVec 32 := Scalar.addi v18 v19
  v20.toNat
def k0_dev2 (d0 : Dev nD) : Nat :=
  let c0_i32_13 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_12 : BitVec 32 := 16#32
  let v21 : BitVec 32 := Scalar.muli v2 c16_i32_12
  let v22 : BitVec 32 := Scalar.addi c0_i32_13 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_14 : BitVec 32 := 4#32
  let v23 : BitVec 32 := Scalar.muli v5 c4_i32_14
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_15 : BitVec 32 := 1#32
  let v25 : BitVec 32 := Scalar.muli v13 c1_i32_15
  let v26 : BitVec 32 := Scalar.addi v24 v25
  v26.toNat
def k0_off1 (d0 : Dev nD) (c0_i32_23 : BitVec 32) (c0_i32_25 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v35 : BitVec 32 := Scalar.subi v8 c1_i32_22
  let v36 : BitVec 32 := Scalar.subi v35 c0_i32_23
  let c8_i32 : BitVec 32 := 8#32
  let v37 : BitVec 32 := Scalar.addi v36 c8_i32
  let c4_i32_24 : BitVec 32 := 4#32
  let v38 : BitVec 32 := Scalar.remsi v37 c4_i32_24
  let c128_i32 : BitVec 32 := 128#32
  let v39 : BitVec 32 := Scalar.muli v38 c128_i32
  let v40 : BitVec 32 := Scalar.addi v39 c0_i32_25
  let v41 : Index := Scalar.indexCast v40
  let c0_26 : Index := 0#32
  ![v41.toNat, 0]
def k0_dev3 (d0 : Dev nD) : Nat :=
  let c0_i32_35 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_34 : BitVec 32 := 16#32
  let v47 : BitVec 32 := Scalar.muli v2 c16_i32_34
  let v48 : BitVec 32 := Scalar.addi c0_i32_35 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v49 : BitVec 32 := Scalar.muli v5 c4_i32_36
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_37 : BitVec 32 := 1#32
  let v51 : BitVec 32 := Scalar.muli v13 c1_i32_37
  let v52 : BitVec 32 := Scalar.addi v50 v51
  v52.toNat
def k0_dev4 (d0 : Dev nD) : Nat :=
  let c0_i32_55 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_54 : BitVec 32 := 16#32
  let v73 : BitVec 32 := Scalar.muli v2 c16_i32_54
  let v74 : BitVec 32 := Scalar.addi c0_i32_55 v73
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_56 : BitVec 32 := 4#32
  let v75 : BitVec 32 := Scalar.muli v5 c4_i32_56
  let v76 : BitVec 32 := Scalar.addi v74 v75
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_57 : BitVec 32 := 1#32
  let v77 : BitVec 32 := Scalar.muli v13 c1_i32_57
  let v78 : BitVec 32 := Scalar.addi v76 v77
  v78.toNat
def k0_dev5 (d0 : Dev nD) : Nat :=
  let c0_i32_75 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_74 : BitVec 32 := 16#32
  let v99 : BitVec 32 := Scalar.muli v2 c16_i32_74
  let v100 : BitVec 32 := Scalar.addi c0_i32_75 v99
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v101 : BitVec 32 := Scalar.muli v5 c4_i32_76
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_77 : BitVec 32 := 1#32
  let v103 : BitVec 32 := Scalar.muli v13 c1_i32_77
  let v104 : BitVec 32 := Scalar.addi v102 v103
  v104.toNat
def k0_dev6 (d0 : Dev nD) : Nat :=
  let c0_i32_94 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_93 : BitVec 32 := 16#32
  let v125 : BitVec 32 := Scalar.muli v2 c16_i32_93
  let v126 : BitVec 32 := Scalar.addi c0_i32_94 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_95 : BitVec 32 := 4#32
  let v127 : BitVec 32 := Scalar.muli v5 c4_i32_95
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_96 : BitVec 32 := 1#32
  let v129 : BitVec 32 := Scalar.muli v13 c1_i32_96
  let v130 : BitVec 32 := Scalar.addi v128 v129
  v130.toNat
def k0_dev7 (d0 : Dev nD) : Nat :=
  let c0_i32_130 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_129 : BitVec 32 := 16#32
  let v167 : BitVec 32 := Scalar.muli v2 c16_i32_129
  let v168 : BitVec 32 := Scalar.addi c0_i32_130 v167
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_131 : BitVec 32 := 4#32
  let v169 : BitVec 32 := Scalar.muli v5 c4_i32_131
  let v170 : BitVec 32 := Scalar.addi v168 v169
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_132 : BitVec 32 := 1#32
  let v171 : BitVec 32 := Scalar.muli v13 c1_i32_132
  let v172 : BitVec 32 := Scalar.addi v170 v171
  v172.toNat
def k0_dev8 (d0 : Dev nD) : Nat :=
  let c0_i32_166 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_165 : BitVec 32 := 16#32
  let v209 : BitVec 32 := Scalar.muli v2 c16_i32_165
  let v210 : BitVec 32 := Scalar.addi c0_i32_166 v209
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v211 : BitVec 32 := Scalar.muli v5 c4_i32_167
  let v212 : BitVec 32 := Scalar.addi v210 v211
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_168 : BitVec 32 := 1#32
  let v213 : BitVec 32 := Scalar.muli v13 c1_i32_168
  let v214 : BitVec 32 := Scalar.addi v212 v213
  v214.toNat
def k0_dev9 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v251 : BitVec 32 := Scalar.muli v2 c16_i32_201
  let v252 : BitVec 32 := Scalar.addi c0_i32_202 v251
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_203 : BitVec 32 := 4#32
  let v253 : BitVec 32 := Scalar.muli v5 c4_i32_203
  let v254 : BitVec 32 := Scalar.addi v252 v253
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_204 : BitVec 32 := 1#32
  let v255 : BitVec 32 := Scalar.muli v13 c1_i32_204
  let v256 : BitVec 32 := Scalar.addi v254 v255
  v256.toNat
def k0_dev10 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v293 : BitVec 32 := Scalar.muli v2 c16_i32_237
  let v294 : BitVec 32 := Scalar.addi c0_i32_238 v293
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v295 : BitVec 32 := Scalar.muli v5 c4_i32_239
  let v296 : BitVec 32 := Scalar.addi v294 v295
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_240 : BitVec 32 := 1#32
  let v297 : BitVec 32 := Scalar.muli v13 c1_i32_240
  let v298 : BitVec 32 := Scalar.addi v296 v297
  v298.toNat
def k0_dev11 (d0 : Dev nD) : Nat :=
  let c0_i32_274 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_273 : BitVec 32 := 16#32
  let v335 : BitVec 32 := Scalar.muli v2 c16_i32_273
  let v336 : BitVec 32 := Scalar.addi c0_i32_274 v335
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_275 : BitVec 32 := 4#32
  let v337 : BitVec 32 := Scalar.muli v5 c4_i32_275
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_276 : BitVec 32 := 1#32
  let v339 : BitVec 32 := Scalar.muli v13 c1_i32_276
  let v340 : BitVec 32 := Scalar.addi v338 v339
  v340.toNat
def k0_dev12 (d0 : Dev nD) : Nat :=
  let c0_i32_310 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_309 : BitVec 32 := 16#32
  let v377 : BitVec 32 := Scalar.muli v2 c16_i32_309
  let v378 : BitVec 32 := Scalar.addi c0_i32_310 v377
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_311 : BitVec 32 := 4#32
  let v379 : BitVec 32 := Scalar.muli v5 c4_i32_311
  let v380 : BitVec 32 := Scalar.addi v378 v379
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_312 : BitVec 32 := 1#32
  let v381 : BitVec 32 := Scalar.muli v13 c1_i32_312
  let v382 : BitVec 32 := Scalar.addi v380 v381
  v382.toNat
def k0_dev13 (d0 : Dev nD) : Nat :=
  let c0_i32_346 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_345 : BitVec 32 := 16#32
  let v419 : BitVec 32 := Scalar.muli v2 c16_i32_345
  let v420 : BitVec 32 := Scalar.addi c0_i32_346 v419
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_347 : BitVec 32 := 4#32
  let v421 : BitVec 32 := Scalar.muli v5 c4_i32_347
  let v422 : BitVec 32 := Scalar.addi v420 v421
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_348 : BitVec 32 := 1#32
  let v423 : BitVec 32 := Scalar.muli v13 c1_i32_348
  let v424 : BitVec 32 := Scalar.addi v422 v423
  v424.toNat
def k0_dev14 (d0 : Dev nD) : Nat :=
  let c0_i32_382 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_381 : BitVec 32 := 16#32
  let v461 : BitVec 32 := Scalar.muli v2 c16_i32_381
  let v462 : BitVec 32 := Scalar.addi c0_i32_382 v461
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_383 : BitVec 32 := 4#32
  let v463 : BitVec 32 := Scalar.muli v5 c4_i32_383
  let v464 : BitVec 32 := Scalar.addi v462 v463
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c4_i32_6 : BitVec 32 := 4#32
  let v13 : BitVec 32 := Scalar.remsi v12 c4_i32_6
  let c1_i32_384 : BitVec 32 := 1#32
  let v465 : BitVec 32 := Scalar.muli v13 c1_i32_384
  let v466 : BitVec 32 := Scalar.addi v464 v465
  v466.toNat
abbrev stage0_0 : Fin 1 → Memref sig .tc .vmem S512x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x2048, .bf16⟩
  | .hbm, ⟨2, _⟩ => ⟨S2048x512, .f32⟩
  | .hbm, ⟨3, _⟩ => ⟨S512x2048, .f32⟩
  | .hbm, ⟨4, _⟩ => ⟨S2048x2048, .f32⟩
  | .hbm, ⟨5, _⟩ => ⟨S512x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Geometry.lean ====
/-
# 01_k — `Geometry`: the ring of the mesh's last axis, the kernel's slots, and what every buffer holds

The kernel's devices form rings of four along the mesh's last axis. Each device multiplies its own blocks to a
`512 × 2048` partial product and passes quarters of row blocks around its ring in three hops, through the twelve slots of
its send buffer and the twelve slots of its neighbour's landing buffer. Here: the ring, the slots as views of the two
buffers (disjoint, covering), the contents every slot holds when it travels, and the contents of the result.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.ViewIndex
public import Idealize.ShloMosaic.Lib.Pointwise.Index
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The ring's own rounds: one record per semaphore cell, duties named by a Boolean. -/
abbrev UB : Type := URounds (GSem nD τ sig) Bool
/-- The pipeline's rounds beside the ring's. -/
abbrev UU : Type := UR sig nD τ × UB

local notation "𝕄" => MT nD τ sig Unit (Elt F) ℕ UU ℕ

/-- Where the pipeline's rounds sit in the algebra, -/
abbrev EP : Emb (UR sig nD τ) (MT nD τ sig Unit (Elt F) ℕ UU ℕ) := embL
/-- and where the ring's do. -/
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The ring -/

set_option backward.proofsInPublic true in
/-- The right neighbour: one further along the last axis, around a ring of four. -/
def nxt (c : Dev nD) : Dev nD :=
  ⟨16 * (c.val / 16) + 4 * ((c.val / 4) % 4) + (((c.val % 4) + 1) % 4), by have := c.isLt; simp only [nD] at *; omega⟩

set_option backward.proofsInPublic true in
/-- The left neighbour: one back. -/
def prv (c : Dev nD) : Dev nD :=
  ⟨16 * (c.val / 16) + 4 * ((c.val / 4) % 4) + (((c.val % 4) + 3) % 4), by have := c.isLt; simp only [nD] at *; omega⟩

/-- Going right and then left is going nowhere, -/
theorem prv_nxt (c : Dev nD) : prv (nxt c) = c := Fin.ext (by simp only [prv, nxt]; omega)
/-- and so is going left and then right. -/
theorem nxt_prv (c : Dev nD) : nxt (prv c) = c := Fin.ext (by simp only [prv, nxt]; omega)

/-- Going once around. -/
def ring : Dev nD ≃ Dev nD := ⟨nxt, prv, prv_nxt, nxt_prv⟩

/-! ## The slots -/

/-- Slot `i` is hop `i / 4`, quarter `i % 4`: where it starts in a `3 × 128 × 2048` buffer, -/
def slotOff (i : Fin 12) : Fin 3 → ℕ := ![i.val / 4, 32 * (i.val % 4), 0]

/-- it lies inside, -/
theorem slotInb (i : Fin 12) : ∀ a, slotOff i a + S1x32x2048.size a ≤ S3x128x2048.size a := by revert i; decide

/-- and is this rectangle of the buffer. -/
abbrev slotRect (i : Fin 12) : Rect S3x128x2048 := Rect.unit (s := S3x128x2048) (slotOff i) S1x32x2048.size (slotInb i)

/-- The send buffer, the landing buffer, the partial product's buffer, the three staging buffers. -/
abbrev sndM : Memref sig .tc .vmem S3x128x2048 .bf16 := Memref.whole cc0_scratch1
/-- The landing buffer, -/
abbrev rcvM : Memref sig .tc .vmem S3x128x2048 .bf16 := Memref.whole cc0_scratch2
/-- the partial product, -/
abbrev parM : Memref sig .tc .vmem S512x2048 .f32 := Memref.whole cc0_scratch0
/-- the staged block of `x`, -/
abbrev xM : Memref sig .tc .vmem S512x512 .bf16 := Memref.whole cc0_stg0_0
/-- that of `dy`, -/
abbrev dyM : Memref sig .tc .vmem S512x2048 .bf16 := Memref.whole cc0_stg1_0
/-- and the staged block of the result, each as a whole. -/
abbrev outM : Memref sig .tc .vmem S128x2048 .f32 := Memref.whole cc0_stg2_0

/-- A slot of a buffer as a transfer's end: the rectangle with its leading axis dropped. -/
abbrev slotM (A : Memref sig .tc .vmem S3x128x2048 .bf16) (off : Fin 3 → ℕ) (inb : ∀ a, off a + S1x32x2048.size a ≤ S3x128x2048.size a) :
    Memref sig .tc .vmem S32x2048 .bf16 :=
  (A.slice (Rect.unit (s := S3x128x2048) off S1x32x2048.size inb) (fun _ => rfl)).squeeze S32x2048 squeezes_S1x32x2048_S32x2048

/-- An element of the buffer lies in slot `i` exactly when its hop is `i`'s and its row `i`'s quarter's. -/
theorem mem_slot (i : Fin 12) (j : S3x128x2048.Idx) : j ∈ (slotRect i).set ↔ (j 0).val = i.val / 4 ∧ (j 1).val / 32 = i.val % 4 := by
  rw [Rect.mem_set_unit]
  constructor
  · intro h
    have h0 : i.val / 4 ≤ (j 0).val ∧ (j 0).val < i.val / 4 + 1 := h 0
    have h1 : 32 * (i.val % 4) ≤ (j 1).val ∧ (j 1).val < 32 * (i.val % 4) + 32 := h 1
    omega
  · rintro ⟨h0, h1⟩ a
    have j2 : (j 2).val < 2048 := (j 2).isLt
    fin_cases a
    · show i.val / 4 ≤ (j 0).val ∧ (j 0).val < i.val / 4 + 1
      omega
    · show 32 * (i.val % 4) ≤ (j 1).val ∧ (j 1).val < 32 * (i.val % 4) + 32
      omega
    · show 0 ≤ (j 2).val ∧ (j 2).val < 0 + 2048
      omega

/-- Two slots share no element, -/
theorem slot_disjoint (i i' : Fin 12) (h : i ≠ i') : Disjoint (slotRect i).set (slotRect i').set := by
  rw [Finset.disjoint_left]
  intro j h1 h2
  rw [mem_slot] at h1 h2
  exact h (Fin.ext (by omega))

/-- and the slots are the whole buffer. -/
theorem slot_cover : Finset.univ.biUnion (fun i : Fin 12 => (slotRect i).set) = Finset.univ := by
  ext j
  simp only [Finset.mem_biUnion, Finset.mem_univ, true_and, iff_true]
  have j0 : (j 0).val < 3 := (j 0).isLt
  have j1 : (j 1).val < 128 := (j 1).isLt
  refine ⟨⟨4 * (j 0).val + (j 1).val / 32, by omega⟩, (mem_slot _ _).mpr ⟨?_, ?_⟩⟩
  · show _ = (4 * (j 0).val + (j 1).val / 32) / 4
    omega
  · show _ = (4 * (j 0).val + (j 1).val / 32) % 4
    omega

/-! ## Contents -/

/-- The staged block of `x` on device `c`, as the pipeline fetches it from the argument array, -/
def xstg (c : Dev nD) : (cc0_stg0_0 : Ref sig .tc).ty.Contents (Elt F) :=
  (win0_0.blk (0 : Fin 1)).view.read (Elt F) ((s₀ m ρ).mem ((c : Thread nD τ).loc main_arg0))
/-- and of `dy`. -/
def dystg (c : Dev nD) : (cc0_stg1_0 : Ref sig .tc).ty.Contents (Elt F) :=
  (win0_1.blk (0 : Fin 1)).view.read (Elt F) ((s₀ m ρ).mem ((c : Thread nD τ).loc main_arg1))

/-- The partial product on device `c`. -/
def part (c : Dev nD) : (cc0_scratch0 : Ref sig .tc).ty.Contents (Elt F) := k0_pay2 (k0_pay1 (xstg m ρ c)) (dystg m ρ c)

/-- Where the rows that hop `s` adds in quarter `q` start in the partial product on device `c`. -/
abbrev partOff (c : Dev nD) (s q : Fin 4) : Fin 2 → ℕ := k0_off1 c (BitVec.ofNat 32 s.val) (BitVec.ofNat 32 (32 * q.val))

/-- Those rows. -/
def rows (c : Dev nD) (s q : Fin 4) : Vec F S32x2048 .f32 :=
  (parM : Memref sig .tc .vmem S512x2048 .f32).view.readAt (Elt F)
    (Rect.unit (s := S512x2048) (partOff c s q) S32x2048.size (k0_off1_inb c s q)).toLoadRect (part m ρ c)

/-- What device `c` sends in hop `s`, quarter `q`: its own rows first, then what arrived from the left with its own rows
    added. -/
def sentAt (q : Fin 4) : ℕ → Dev nD → Vec F S1x32x2048 .bf16
  | 0, c => k0_pay3 (rows m ρ c 0 q)
  | s + 1, c => k0_pay10 (sentAt q s (prv c)) (rows m ρ c (Fin.ofNat 4 (s + 1)) q)

/-- What device `c` sends through slot `i`. -/
def sent (i : Fin 12) (c : Dev nD) : Vec F S1x32x2048 .bf16 := sentAt m ρ (Fin.ofNat 4 (i.val % 4)) (i.val / 4) c

/-- The quarter `q` of the result on device `c`: what arrived last with its own rows added. -/
def outBlk (c : Dev nD) (q : Fin 4) : Vec F S32x2048 .f32 := k0_pay23 (sentAt m ρ q 2 (prv c)) (rows m ρ c 3 q)

/-- The result on device `c`. -/
def outAt (c : Dev nD) : (cc0_stg2_0 : Ref sig .tc).ty.Contents (Elt F) := fun j =>
  outBlk m ρ c ⟨(j 0).val / 32, by have h : (j 0).val < 128 := (j 0).isLt; omega⟩
    (ix2 (⟨(j 0).val % 32, Nat.mod_lt _ (by decide)⟩ : Fin 32) (⟨(j 1).val, (j 1).isLt⟩ : Fin 2048))

/-! ## Reads and writes of slots -/

/-- What slot `i` of a buffer holds, read as the kernel reads it. -/
abbrev slotRead (A : Memref sig .tc .vmem S3x128x2048 .bf16) (i : Fin 12) (f : A.view.ty.Contents (Elt F)) : Vec F S1x32x2048 .bf16 :=
  A.view.readAt (Elt F) (slotRect i).toLoadRect f

/-- A store to a slot is read back. -/
theorem slotRead_store (A : Memref sig .tc .vmem S3x128x2048 .bf16) (i : Fin 12) (f : A.view.ty.Contents (Elt F)) (v : Vec F S1x32x2048 .bf16) :
    slotRead A i ((A.access (slotRect i)).write (Elt F) f v Finset.univ) = v := by
  show (A.access (slotRect i)).read (Elt F) ((A.access (slotRect i)).write (Elt F) f v Finset.univ) = v
  exact View.read_write_univ (v := A.access (slotRect i)) f v

/-- A transfer from slot `i` of one buffer to slot `i` of another carries what the first held. -/
theorem slotRead_landed (A B : Memref sig .tc .vmem S3x128x2048 .bf16) (i : Fin 12) (fs : A.view.ty.Contents (Elt F)) (fd : B.view.ty.Contents (Elt F)) :
    slotRead B i ((slotM B (slotOff i) (slotInb i)).view.write (Elt F) fd ((slotM A (slotOff i) (slotInb i)).view.read (Elt F) fs) Finset.univ)
      = slotRead A i fs := by
  funext y
  obtain ⟨x, rfl⟩ := (Shape.reshapeEquiv squeezes_S1x32x2048_S32x2048.numel_eq).surjective y
  exact View.read_write_reshape (v := B.access (slotRect i)) squeezes_S1x32x2048_S32x2048.numel_eq fd
    ((slotM A (slotOff i) (slotInb i)).view.read (Elt F) fs) x

end Cert.RingProof

end
-- ==== Proof.Protocol.lean ====
/-
# 01_k — `Protocol`: who signals whom, what travels with each signal, and why no wait is circular

Every device has one barrier cell, twelve send cells and twelve receive cells, each used for one round.

- A barrier cell has two duties of one unit. The right neighbour pays `true`, and hands over its landing buffer, slot by
  slot; the left neighbour pays `false` and hands over nothing.
- Send cell `i` has one duty: the transfer through slot `i` pays it and gives the slot back.
- Receive cell `i` has one duty: the left neighbour's transfer through slot `i` pays it, with the landing slot holding what
  the left neighbour sent.

A device waits on its receive cell `i` while it still owes its right neighbour the transfers from some slot `n > i` on: the
levels of the receive cells rise with the slot, so no circle of waits arises.
-/
module

public import proofs.«01_k».proof.Proof.Geometry

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- The runtime's barrier semaphore; -/
abbrev barS : Sem sig := (SemArray.scalar (sig.barrier 0 rfl) : Sems sig S_).sem

set_option backward.proofsInPublic true in
/-- the send semaphore of slot `i`, -/
def sendS (i : Fin 12) : DmaSem sig := ⟨3 + i.val, by have := i.isLt; show 3 + i.val < 27; omega⟩

set_option backward.proofsInPublic true in
/-- and the receive semaphore of slot `i`. -/
def recvS (i : Fin 12) : DmaSem sig := ⟨15 + i.val, by have := i.isLt; show 15 + i.val < 27; omega⟩

/-- The barrier cell of a device, -/
abbrev barCell (c : Dev nD) : GSem nD τ sig := ((c : Thread nD τ), .reg barS)
/-- its send cell at a slot, -/
abbrev sendCell (c : Dev nD) (i : Fin 12) : GSem nD τ sig := ((c : Thread nD τ), .dma (sendS i))
/-- and its receive cell at a slot. -/
abbrev recvCell (c : Dev nD) (i : Fin 12) : GSem nD τ sig := ((c : Thread nD τ), .dma (recvS i))

/-- The units a transfer of one slot pays. -/
abbrev N : ℕ := (slotM rcvM (slotOff 0) (slotInb 0)).view.dmaCredit
/-- They are not none. -/
theorem N_pos : 0 < N := View.dmaCredit_pos _ (by decide)

/-! ## Slots held -/

/-- Slot `i` of the buffer `A` of device `c`, at contents `f`; -/
def slotPts (A : Memref sig .tc .vmem S3x128x2048 .bf16) (c : Dev nD) (i : Fin 12) (f : Buf (Elt F) (A.view.loc (c : Thread nD τ))) : sProp 𝕄 :=
  A.view.loc (c : Thread nD τ) ↦[(A.access (slotRect i)).set]{fullShare} f

/-- at any contents; -/
def slotAny (A : Memref sig .tc .vmem S3x128x2048 .bf16) (c : Dev nD) (i : Fin 12) : sProp 𝕄 :=
  iprop(∃ f, slotPts (F := F) A c i f)

/-- at contents that read `w`. -/
def slotHas (A : Memref sig .tc .vmem S3x128x2048 .bf16) (c : Dev nD) (i : Fin 12) (w : Vec F S1x32x2048 .bf16) : sProp 𝕄 :=
  iprop(∃ f, ⌜slotRead (F := F) A i f = w⌝ ∗ slotPts A c i f)

omit [FloatOps F] in
/-- A slot can be put in an invariant, -/
instance slotAny_storable (A : Memref sig .tc .vmem S3x128x2048 .bf16) (c : Dev nD) (i : Fin 12) :
    BI.Storable (upEmb : UEmb _ 𝕄) (slotAny (F := F) A c i) := by unfold slotAny slotPts; infer_instance
omit [FloatOps F] in
/-- with its contents too. -/
instance slotHas_storable (A : Memref sig .tc .vmem S3x128x2048 .bf16) (c : Dev nD) (i : Fin 12) (w : Vec F S1x32x2048 .bf16) :
    BI.Storable (upEmb : UEmb _ 𝕄) (slotHas (F := F) A c i w) := by unfold slotHas slotPts; infer_instance

/-! ## The schedule -/

/-- What the right neighbour's signal hands `c`: that neighbour's landing buffer. -/
def barPay (c : Dev nD) : sProp 𝕄 := bigSep Finset.univ fun i : Fin 12 => slotAny (F := F) rcvM (nxt c) i

omit [FloatOps F] in
/-- So can a landing buffer, -/
instance barPay_storable (c : Dev nD) : BI.Storable (upEmb : UEmb _ 𝕄) (barPay (F := F) c) := by unfold barPay; infer_instance

/-- What completes on a transfer semaphore: at a receive semaphore the landing slot with what the left neighbour sent, at a
    send semaphore the send slot back. -/
def semPay (s : DmaSem sig) (c : Dev nD) : sProp 𝕄 :=
  if 15 ≤ s.val then slotHas rcvM c (Fin.ofNat 12 (s.val - 15)) (sent m ρ (Fin.ofNat 12 (s.val - 15)) (prv c))
  else slotAny sndM c (Fin.ofNat 12 (s.val - 3))

/-- and what a transfer completes with, -/
instance semPay_storable (s : DmaSem sig) (c : Dev nD) : BI.Storable (upEmb : UEmb _ 𝕄) (semPay m ρ s c) := by
  unfold semPay; split <;> infer_instance

/-- The duties, by semaphore. -/
def semDuties : SemLoc sig → Finset Bool
  | .reg _ => Finset.univ
  | .dma s => if 3 ≤ s.val then {false} else ∅

/-- The units of a duty, by semaphore. -/
def semAmount : SemLoc sig → ℕ
  | .reg _ => 1
  | .dma _ => N

/-- What a duty hands over, by semaphore. -/
def semPayload (c : Dev nD) (d : Bool) : SemLoc sig → sProp 𝕄
  | .reg _ => if d then barPay c else iprop(emp)
  | .dma s => semPay m ρ s c

/-- The ring's schedule: one round. -/
def ringRd : Rounds.Schedule (GSem nD τ sig) Bool 𝕄 where
  duties g r := if r = 0 ∧ g.1.2 = .tc then semDuties g.2 else ∅
  unitless _ := False
  amount g _ _ := semAmount g.2
  payload g _ d := semPayload m ρ g.1.1 d g.2
  amount_pos g _ _ _ := by
    rcases g with ⟨t, s | s⟩
    · exact Nat.one_pos
    · exact N_pos

/-- so every payload can. -/
instance ringRd_payload_storable (g : GSem nD τ sig) (r : ℕ) (d : Bool) :
    BI.Storable (upEmb : UEmb _ 𝕄) ((ringRd (F := F) m ρ).payload g r d) := by
  show BI.Storable upEmb (semPayload m ρ g.1.1 d g.2)
  rcases g with ⟨t, s | s⟩
  · show BI.Storable upEmb (if d then barPay t.1 else iprop(emp))
    split <;> infer_instance
  · show BI.Storable upEmb (semPay m ρ s t.1)
    infer_instance

section Sched
variable (c : Dev nD) (i : Fin 12)

/-- A barrier cell has both duties, -/
theorem duties_bar : (ringRd (F := F) m ρ).duties (barCell c) 0 = Finset.univ := by
  dsimp only [ringRd]; exact if_pos ⟨rfl, rfl⟩
/-- a send cell one, -/
theorem duties_send : (ringRd (F := F) m ρ).duties (sendCell c i) 0 = {false} := by
  dsimp only [ringRd]; rw [if_pos ⟨rfl, rfl⟩]; exact if_pos (Nat.le_add_right 3 i.val)
/-- a receive cell one, -/
theorem duties_recv : (ringRd (F := F) m ρ).duties (recvCell c i) 0 = {false} := by
  dsimp only [ringRd]; rw [if_pos ⟨rfl, rfl⟩]; exact if_pos (show 3 ≤ 15 + i.val by omega)
/-- and after the first round there are none. -/
theorem duties_later (g : GSem nD τ sig) : ∀ r, 1 ≤ r → (ringRd (F := F) m ρ).duties g r = ∅ :=
  fun r hr => by dsimp only [ringRd]; exact if_neg fun h => by omega

/-- A signal is one unit, -/
theorem amount_bar (d : Bool) : (ringRd (F := F) m ρ).amount (barCell c) 0 d = 1 := rfl
/-- a transfer pays its units at the sender, -/
theorem amount_send (d : Bool) : (ringRd (F := F) m ρ).amount (sendCell c i) 0 d = N := rfl
/-- and the same at the receiver. -/
theorem amount_recv (d : Bool) : (ringRd (F := F) m ρ).amount (recvCell c i) 0 d = N := rfl

/-- So a barrier cell expects two units, -/
theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
/-- a send cell those of one transfer, -/
theorem expect_send : (ringRd (F := F) m ρ).expect (sendCell c i) 0 = N := by
  unfold Schedule.expect Schedule.amountOf; rw [duties_send, Finset.sum_singleton, amount_send]
/-- and a receive cell the same. -/
theorem expect_recv : (ringRd (F := F) m ρ).expect (recvCell c i) 0 = N := by
  unfold Schedule.expect Schedule.amountOf; rw [duties_recv, Finset.sum_singleton, amount_recv]

/-- The right neighbour hands over its landing buffer, -/
theorem payload_bar_true : (ringRd (F := F) m ρ).payload (barCell c) 0 true = barPay c := rfl
/-- the left one nothing; -/
theorem payload_bar_false : (ringRd (F := F) m ρ).payload (barCell c) 0 false = iprop(emp) := rfl
/-- a send cell gives the slot back, -/
theorem payload_send (d : Bool) : (ringRd (F := F) m ρ).payload (sendCell c i) 0 d = slotAny sndM c i := by
  show semPay m ρ (sendS i) c = _
  have e : (Fin.ofNat 12 ((sendS i).val - 3)) = i := Fin.ext (by have := i.isLt; show (3 + i.val - 3) % 12 = i.val; omega)
  unfold semPay
  rw [if_neg (by have := i.isLt; show ¬ 15 ≤ 3 + i.val; omega), e]
/-- and a receive cell hands over the landing slot with what was sent. -/
theorem payload_recv (d : Bool) : (ringRd (F := F) m ρ).payload (recvCell c i) 0 d = slotHas rcvM c i (sent m ρ i (prv c)) := by
  show semPay m ρ (recvS i) c = _
  have e : (Fin.ofNat 12 ((recvS i).val - 15)) = i := Fin.ext (by have := i.isLt; show (15 + i.val - 15) % 12 = i.val; omega)
  unfold semPay
  rw [if_pos (by show 15 ≤ 15 + i.val; omega), e]

/-- The rest of the barrier cell's round: nothing, and the right neighbour's landing buffer. -/
theorem rest_bar : bigSep ((ringRd (F := F) m ρ).duties (barCell c) 0 \ ∅) (fun d => (ringRd (F := F) m ρ).payload (barCell c) 0 d)
    = iprop(emp ∗ barPay c) := by
  rw [Finset.sdiff_empty, duties_bar, bigSep_univ_eq_bigSepL [false, true] (by decide) (by decide), bigSepL_cons_cons, bigSepL_singleton,
    payload_bar_false, payload_bar_true]
  rfl
/-- All that is left to collect at a send cell is the slot, -/
theorem rest_send : bigSep ((ringRd (F := F) m ρ).duties (sendCell c i) 0 \ ∅) (fun d => (ringRd (F := F) m ρ).payload (sendCell c i) 0 d)
    = slotAny sndM c i := by
  rw [Finset.sdiff_empty, duties_send, bigSep_singleton, payload_send]
/-- and at a receive cell the landing slot. -/
theorem rest_recv : bigSep ((ringRd (F := F) m ρ).duties (recvCell c i) 0 \ ∅) (fun d => (ringRd (F := F) m ρ).payload (recvCell c i) 0 d)
    = slotHas rcvM c i (sent m ρ i (prv c)) := by
  rw [Finset.sdiff_empty, duties_recv, bigSep_singleton, payload_recv]

end Sched

/-! ## What each device owes; the levels -/

/-- What device `c` owes its right neighbour before it sends slot `n`: the transfers through slots `n, …, 11`. -/
def owedFrom (c : Dev nD) (n : ℕ) : CellTallies nD τ sig Unit :=
  ∑ i ∈ Finset.univ.filter (fun i : Fin 12 => n ≤ i.val), tallyAt (recvCell (nxt c) i) () N

/-- Sending slot `i` pays one summand. -/
theorem owedFrom_step (c : Dev nD) (i : Fin 12) : owedFrom c i.val = owedFrom c (i.val + 1) + tallyAt (recvCell (nxt c) i) () N := by
  unfold owedFrom
  have e : Finset.univ.filter (fun j : Fin 12 => i.val ≤ j.val) = insert i (Finset.univ.filter (fun j : Fin 12 => i.val + 1 ≤ j.val)) := by
    ext j
    simp only [Finset.mem_filter, Finset.mem_univ, true_and, Finset.mem_insert, Fin.ext_iff]
    omega
  rw [e, Finset.sum_insert (by simp), add_comm]

/-- After the last slot nothing is owed. -/
theorem owedFrom_last (c : Dev nD) : owedFrom c 12 = 0 := by
  unfold owedFrom
  rw [Finset.filter_eq_empty_iff.mpr fun i _ => by have := i.isLt; omega, Finset.sum_empty]

/-- What device `c` owes once it has signalled its left neighbour: its twelve transfers and a unit to its right neighbour's barrier. -/
def O₁ (c : Dev nD) : CellTallies nD τ sig Unit := owedFrom c 0 + tallyAt (barCell (nxt c)) () 1
/-- At launch it also owes its left neighbour's barrier a unit, which it pays first. -/
def O₀ (c : Dev nD) : CellTallies nD τ sig Unit := O₁ c + tallyAt (barCell (prv c)) () 1

/-- One level per cell of a tensor core. -/
def L (g : GSem nD τ sig) : Finset Unit := if g.1.2 = .tc then {()} else ∅

/-- The level of a semaphore: barrier 1, receive semaphore of slot `i` at `2 + i`, all else 0. -/
def semLv : SemLoc sig → ℕ
  | .reg _ => 1
  | .dma s => if 15 ≤ s.val then s.val - 13 else 0
/-- The level of a cell. -/
def lv (g : GSem nD τ sig) (_ : Unit) : ℕ := semLv g.2

/-- Other threads have no level, -/
theorem L_of_ne (g : GSem nD τ sig) (h : g.1.2 ≠ .tc) : L g = ∅ := if_neg h
/-- a tensor core has the one, -/
theorem L_tc (c : Dev nD) (sm : SemLoc sig) : L ((c : Thread nD τ), sm) = {()} := if_pos rfl
/-- and a receive cell's rises with its slot. -/
theorem lv_recv (c : Dev nD) (i : Fin 12) : lv (recvCell c i) () = 2 + i.val :=
  (if_pos (Nat.le_add_right 15 i.val)).trans (by show 15 + i.val - 13 = 2 + i.val; omega)

/-- What is owed from slot `n` on is owed to receive cells of slots from `n` on. -/
theorem owedFrom_pos {c : Dev nD} {n : ℕ} {g : GSem nD τ sig} {u : Unit} (h : 0 < owedFrom c n g u) :
    ∃ i : Fin 12, n ≤ i.val ∧ g = recvCell (nxt c) i := by
  unfold owedFrom at h
  rw [Finset.sum_apply, Finsupp.finset_sum_apply] at h
  obtain ⟨i, hi, hne⟩ := Finset.exists_ne_zero_of_sum_ne_zero (Nat.pos_iff_ne_zero.mp h)
  rw [tallyAt_apply] at hne
  by_cases hg : g = recvCell (nxt c) i ∧ u = ()
  · exact ⟨i, (Finset.mem_filter.mp hi).2, hg.1⟩
  · rw [if_neg hg] at hne; exact absurd rfl hne

/-- What a device owes at the start is to barrier cells and receive cells. -/
theorem O₀_pos {c : Dev nD} {g : GSem nD τ sig} {u : Unit} (h : 0 < O₀ c g u) :
    (∃ i : Fin 12, g = recvCell (nxt c) i) ∨ g = barCell (prv c) ∨ g = barCell (nxt c) := by
  unfold O₀ O₁ at h
  rw [Pi.add_apply, Finsupp.add_apply, Pi.add_apply, Finsupp.add_apply, tallyAt_apply, tallyAt_apply] at h
  by_contra hn
  rw [not_or, not_or] at hn
  rw [if_neg (fun h' => hn.2.2 h'.1), if_neg (fun h' => hn.2.1 h'.1)] at h
  simp only [Nat.add_zero] at h
  obtain ⟨i, -, hi⟩ := owedFrom_pos h
  exact hn.1 ⟨i, hi⟩

omit [FloatOps F] in
/-- A staging semaphore may be waited on while all of it is owed. -/
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | rfl | rfl <;> exact Finset.mem_singleton_self _)
      (fun p hp => by rw [Finset.mem_singleton.mp hp]; exact le_of_eq (if_neg (by omega)))
      (fun g u hg => by
        rcases O₀_pos hg with ⟨i, rfl⟩ | rfl | rfl
        · rw [lv_recv]; omega
        · exact Nat.one_pos
        · exact Nat.one_pos)
  · rw [MayWait_zero]; iintro -; iempintro

omit [FloatOps F] in
/-- The barrier may be waited on while the twelve transfers are owed; -/
theorem mayWait_bar (c : Dev nD) : (levAts L lv : sProp 𝕄) ⊢ MayWait (c : Thread nD τ) (.reg barS) () (owedFrom c 0) :=
  MayOwe.of_cut (L := L) (lev := lv) 1 (fun p hp => by rw [Finset.mem_singleton.mp hp, L_tc]; exact Finset.mem_singleton_self _)
    (fun g u hg => by obtain ⟨i, -, rfl⟩ := owedFrom_pos hg; exact Finset.mem_singleton_self _)
    (fun p hp => by rw [Finset.mem_singleton.mp hp]; exact le_refl 1)
    (fun g u hg => by obtain ⟨i, -, rfl⟩ := owedFrom_pos hg; rw [lv_recv]; omega)

omit [FloatOps F] in
/-- and receive cell `i` while the transfers from a later slot on are owed. -/
theorem mayWait_recv (c : Dev nD) (i : Fin 12) (n : ℕ) (hn : i.val < n) :
    (levAts L lv : sProp 𝕄) ⊢ MayWait (c : Thread nD τ) (.dma (recvS i)) () (owedFrom c n) :=
  MayOwe.of_cut (L := L) (lev := lv) (2 + i.val) (fun p hp => by rw [Finset.mem_singleton.mp hp, L_tc]; exact Finset.mem_singleton_self _)
    (fun g u hg => by obtain ⟨i, -, rfl⟩ := owedFrom_pos hg; exact Finset.mem_singleton_self _)
    (fun p hp => by rw [Finset.mem_singleton.mp hp]; exact le_of_eq (lv_recv c i))
    (fun g u hg => by obtain ⟨i', hi', rfl⟩ := owedFrom_pos hg; rw [lv_recv]; omega)

/-! ## The records: every cell's invariant and its first round, known to every device -/

/-- The cells of a device: its barrier, its send cells, its receive cells. -/
abbrev CellIx : Type := Unit ⊕ (Fin 12 ⊕ Fin 12)
/-- The kernel's own semaphores among them. -/
abbrev osem : Fin 12 ⊕ Fin 12 → SemLoc sig := fun
  | .inl i => .dma (sendS i)
  | .inr i => .dma (recvS i)
/-- The semaphore of a cell index, -/
abbrev csem : CellIx → SemLoc sig := fun
  | .inl _ => .reg barS
  | .inr k => osem k
/-- and the cell. -/
abbrev kcell (ck : Dev nD × CellIx) : GSem nD τ sig := ((ck.1 : Thread nD τ), csem ck.2)

/-- Every cell's invariant, under the names `K`, and that every cell is at round 0 or later. -/
def records (K : Dev nD × CellIx → ℕ) : sProp 𝕄 :=
  iprop((bigSep Finset.univ fun ck : Dev nD × CellIx => cellInv ER (ringRd m ρ) (K ck) (kcell ck))
    ∗ bigSep Finset.univ fun ck : Dev nD × CellIx => reached ER (kcell ck) 0)

/-- The records can be kept while used. -/
instance records_persistent (K : Dev nD × CellIx → ℕ) : BI.Persistent (records m ρ K) := by unfold records; infer_instance

/-- They hold each cell's invariant, -/
theorem records_inv (K : Dev nD × CellIx → ℕ) (ck : Dev nD × CellIx) : records m ρ K ⊢ cellInv ER (ringRd m ρ) (K ck) (kcell ck) := by
  have h : (bigSep Finset.univ fun ck : Dev nD × CellIx => (cellInv ER (ringRd m ρ) (K ck) (kcell ck) : sProp 𝕄))
      ⊢ cellInv ER (ringRd m ρ) (K ck) (kcell ck) := bigSep_elim (Finset.mem_univ ck)
  unfold records
  iintro ⟨H, -⟩
  iapply h; iexact H

/-- and that its first round is reached. -/
theorem records_reached (K : Dev nD × CellIx → ℕ) (ck : Dev nD × CellIx) : records m ρ K ⊢ reached ER (kcell ck) 0 := by
  have h : (bigSep Finset.univ fun ck : Dev nD × CellIx => (reached ER (kcell ck) 0 : sProp 𝕄)) ⊢ reached ER (kcell ck) 0 :=
    bigSep_elim (Finset.mem_univ ck)
  unfold records
  iintro ⟨-, H⟩
  iapply h; iexact H

end Cert.RingProof

end
-- ==== Proof.Steps.lean ====
/-
# 01_k — `Steps`: one rule for each kind of step of the kernel's body, at a symbolic slot

What a device holds while it runs is three families over the twelve slots — what it still has to send or has in flight,
what it still has to receive — with what it owes, each indexed by how far the device has come. A hop out, a hop in and a
wait for a transfer's end each move one family on by one slot; each is proved once, for every slot.
-/
module

public import proofs.«01_k».proof.Proof.Protocol

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- No loop needs a variant. -/
abbrev 𝒱₀ : Variants := Variants.none

/-! ## What a device holds -/

/-- What device `c` owes, whatever it has waited on. -/
def owing (c : Dev nD) (O : CellTallies nD τ sig Unit) : sProp 𝕄 := iprop(∃ W, owes (c : Thread nD τ) O W)

/-- Slot `i` before it is sent: the send slot, the right neighbour's landing slot, the two duties the transfer pays, and the
    position at the send cell; -/
def outReady (c : Dev nD) (i : Fin 12) : sProp 𝕄 :=
  iprop(slotAny sndM c i ∗ slotAny rcvM (nxt c) i ∗ dutyTok ER (sendCell c i) 0 false ∗ dutyTok ER (recvCell (nxt c) i) 0 false
    ∗ atPos ER (sendCell c i) 0 ∅ 0)
/-- while it travels: the position at the send cell and the credit to wait there; -/
def outFlying (c : Dev nD) (i : Fin 12) : sProp 𝕄 :=
  iprop(atPos ER (sendCell c i) 0 ∅ 0 ∗ cred (tallyAt (sendCell c i) () N))
/-- and after the wait: the send slot again, the send cell closed at zero. -/
def outDone (c : Dev nD) (i : Fin 12) : sProp 𝕄 := iprop(slotAny sndM c i ∗ semVal (sendCell c i) 0)

/-- Slot `i` when the slots before `a` have been sent and those before `d` waited for. -/
def outAtStep (c : Dev nD) (a d : ℕ) (i : Fin 12) : sProp 𝕄 :=
  if i.val < d then outDone c i else if i.val < a then outFlying c i else outReady c i

/-- The sending side of device `c`: slots before `a` sent, slots before `d` waited for. -/
def sending (c : Dev nD) (a d : ℕ) : sProp 𝕄 := bigSep Finset.univ (outAtStep (F := F) c a d)

/-- Slot `i` of the landing buffer before its receive cell is waited on, -/
def inWaiting (c : Dev nD) (i : Fin 12) : sProp 𝕄 := iprop(atPos ER (recvCell c i) 0 ∅ 0 ∗ cred (tallyAt (recvCell c i) () N))
/-- and after: the landing slot, the receive cell closed at zero. -/
def inDone (c : Dev nD) (i : Fin 12) : sProp 𝕄 := iprop(slotAny rcvM c i ∗ semVal (recvCell c i) 0)

/-- Slot `i` of the landing buffer when the slots before `b` have been received. -/
def inAtStep (c : Dev nD) (b : ℕ) (i : Fin 12) : sProp 𝕄 := if i.val < b then inDone c i else inWaiting c i

/-- The receiving side of device `c`: slots before `b` received. -/
def receiving (c : Dev nD) (b : ℕ) : sProp 𝕄 := bigSep Finset.univ (inAtStep (F := F) c b)

omit [FloatOps F] in
/-- Sending slot `i` moves the sending side from `i` to `i + 1`. -/
theorem sending_send (c : Dev nD) (i : Fin 12) :
    sending (F := F) c i.val 0 ⊢ iprop(outReady c i ∗ (outFlying c i -∗ sending c (i.val + 1) 0)) := by
  have h := bigSep_univ_update (Φ := outAtStep (F := F) c i.val 0) (Ψ := outAtStep (F := F) c (i.val + 1) 0) i fun j hj => by
    have hne : j.val ≠ i.val := fun e => hj (Fin.ext e)
    simp only [outAtStep, Nat.not_lt_zero, if_false]
    by_cases hlt : j.val < i.val
    · rw [if_pos hlt, if_pos (by omega)]
    · rw [if_neg hlt, if_neg (by omega)]
  have e1 : outAtStep (F := F) c i.val 0 i = outReady c i := by
    unfold outAtStep; rw [if_neg (by omega), if_neg (by omega)]
  have e2 : outAtStep (F := F) c (i.val + 1) 0 i = outFlying c i := by
    unfold outAtStep; rw [if_neg (by omega), if_pos (by omega)]
  rw [e1, e2] at h
  exact h

omit [FloatOps F] in
/-- Waiting for the transfer of slot `i` moves the sending side, all sent, from `i` to `i + 1` waited for. -/
theorem sending_wait (c : Dev nD) (i : Fin 12) :
    sending (F := F) c 12 i.val ⊢ iprop(outFlying c i ∗ (outDone c i -∗ sending c 12 (i.val + 1))) := by
  have h := bigSep_univ_update (Φ := outAtStep (F := F) c 12 i.val) (Ψ := outAtStep (F := F) c 12 (i.val + 1)) i fun j hj => by
    have hne : j.val ≠ i.val := fun e => hj (Fin.ext e)
    unfold outAtStep
    by_cases hlt : j.val < i.val
    · rw [if_pos hlt, if_pos (by omega)]
    · rw [if_neg hlt, if_neg (by omega)]
  have e1 : outAtStep (F := F) c 12 i.val i = outFlying c i := by
    unfold outAtStep; rw [if_neg (by omega), if_pos i.isLt]
  have e2 : outAtStep (F := F) c 12 (i.val + 1) i = outDone c i := by
    unfold outAtStep; rw [if_pos (by omega)]
  rw [e1, e2] at h
  exact h

omit [FloatOps F] in
/-- Receiving slot `i` moves the receiving side from `i` to `i + 1`. -/
theorem receiving_recv (c : Dev nD) (i : Fin 12) :
    receiving (F := F) c i.val ⊢ iprop(inWaiting c i ∗ (inDone c i -∗ receiving c (i.val + 1))) := by
  have h := bigSep_univ_update (Φ := inAtStep (F := F) c i.val) (Ψ := inAtStep (F := F) c (i.val + 1)) i fun j hj => by
    have hne : j.val ≠ i.val := fun e => hj (Fin.ext e)
    unfold inAtStep
    by_cases hlt : j.val < i.val
    · rw [if_pos hlt, if_pos (by omega)]
    · rw [if_neg hlt, if_neg (by omega)]
  have e1 : inAtStep (F := F) c i.val i = inWaiting c i := by
    unfold inAtStep; rw [if_neg (by omega)]
  have e2 : inAtStep (F := F) c (i.val + 1) i = inDone c i := by
    unfold inAtStep; rw [if_pos (by omega)]
  rw [e1, e2] at h
  exact h

/-! ## The steps -/

section Steps

variable (K : Dev nD × CellIx → ℕ) (c : Dev nD)

/-- A transfer of a slot pays the same units from either end. -/
theorem credit_snd (i : Fin 12) : (slotM sndM (slotOff i) (slotInb i)).view.dmaCredit = N := rfl
/-- A transfer into a landing slot pays the same at every slot. -/
theorem credit_rcv (i : Fin 12) : (slotM rcvM (slotOff i) (slotInb i)).view.dmaCredit = N := rfl

omit [FloatOps F] in
/-- The elements of a slot, read with its leading axis dropped, are the slot's. -/
theorem slot_set (A : Memref sig .tc .vmem S3x128x2048 .bf16) (i : Fin 12) :
    (slotM A (slotOff i) (slotInb i)).view.set = (A.access (slotRect i)).set := View.set_reshape _ _

set_option maxHeartbeats 800000 in
/-- A hop out through slot `i`: the kernel reads the send slot (and drops what it read), stores `v` there, and starts the
    transfer to the right neighbour. The value stored is what slot `i` carries. -/
theorem hop_out (n : Dev nD) (hn : n = nxt c) (i : Fin 12) {off : Fin 3 → ℕ} (hoff : off = slotOff i)
    {v : Vec F S1x32x2048 .bf16} (hv : v = sent m ρ i c) {sS sR : DmaSem sig} (hS : sS = sendS i) (hR : sR = recvS i)
    {inb₁ inb₂ inb₃ inb₄ : ∀ a, off a + S1x32x2048.size a ≤ S3x128x2048.size a} {hl hx hm hsc hsrc hdst hsem}
    {α : Type} {Q : α → sProp 𝕄} {k : PUnit → Prog (TpuEff nD τ sig (Elt F) Λ₀ .tc) α} :
    iprop(records m ρ K ∗ sending c i.val 0 ∗ owing c (owedFrom c i.val))
      ⊢ iprop(((sending c (i.val + 1) 0 ∗ owing c (owedFrom c (i.val + 1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load sndM (Rect.unit (s := S3x128x2048) off S1x32x2048.size inb₁).toLoadRect hl) fun _ =>
                .op (.store sndM (Rect.unit (s := S3x128x2048) off S1x32x2048.size inb₂) v Finset.univ hx hm) fun _ =>
                  .op (.enqueueDma (slotM sndM off inb₃) (.remote (Dev.tc n : Thread nD τ) (slotM rcvM off inb₄) (.dma sS) hsc) (.dma sR)
                    hsrc hdst hsem) k) Q) := by
  subst hn; subst hoff; subst hv; subst hS; subst hR
  iintro ⟨#HR, HS, HO⟩ Hk
  ihave H := (sending_send (F := F) c i) $$ HS
  icases H with ⟨Hr, Hback⟩
  unfold outReady owing
  icases Hr with ⟨Hsnd, Hrcv, HtS, HtR, HatS⟩
  icases HO with ⟨%W, HO⟩
  unfold slotAny slotPts
  icases Hsnd with ⟨%fs, Hsnd⟩
  icases Hrcv with ⟨%fd, Hrcv⟩
  iapply (wp_load_rect 𝒱₀ (c : Thread nD τ) none Set.univ (m := sndM) (r := slotRect i) (by exact Finset.Subset.refl _)) $$ Hsnd; iintro Hsnd
  iapply (wp_store 𝒱₀ (c : Thread nD τ) none Set.univ (m := sndM) (r := slotRect i) (Mk := Finset.univ) (by exact Finset.Subset.refl _)) $$ Hsnd
  iintro Hsnd
  rw [owedFrom_step c i]
  ihave #HIs := (records_inv m ρ K (c, .inr (.inl i))) $$ HR
  ihave #HIr := (records_inv m ρ K (nxt c, .inr (.inr i))) $$ HR
  ihave #Hrs := (records_reached m ρ K (c, .inr (.inl i))) $$ HR
  ihave #Hrr := (records_reached m ρ K (nxt c, .inr (.inr i))) $$ HR
  rw [← slot_set sndM i, ← slot_set rcvM i]
  iapply (Rounds.wp_send_pointsTo 𝒱₀ ER (ringRd m ρ) (c : Thread nD τ) none (c' := (nxt c : Thread nD τ)) (src := slotM sndM (slotOff i) (slotInb i)) (dst := slotM rcvM (slotOff i) (slotInb i))
    (κ₁ := K (c, .inr (.inl i))) (κ₂ := K (nxt c, .inr (.inr i))) (fs := (sndM.access (slotRect i)).write (Elt F) fs (sent m ρ i c) Finset.univ)
    (r₁ := 0) (r₂ := 0) (d₁ := false) (d₂ := false) (fd := fd)
    (by rw [duties_send]; exact Finset.mem_singleton_self _) (by rw [duties_recv]; exact Finset.mem_singleton_self _)
    () () N rfl (amount_send m ρ c i false) (amount_recv m ρ (nxt c) i false) (owedFrom c (i.val + 1)) rfl (W := W)
    (by
      rw [payload_send]; unfold slotAny slotPts; rw [slot_set]
      iintro H; iexists _; iexact H)
    (by
      rw [payload_recv, prv_nxt]; unfold slotHas slotPts; rw [slot_set]
      iintro H; iexists _
      isplitr
      rotate_left
      · iexact H
      · ipureintro
        rw [slotRead_landed]; exact slotRead_store sndM i fs _))
    $$ [Hsnd Hrcv HO HtS HtR]
  · isplitr; · iexact HIs
    isplitr; · iexact HIr
    isplitl [Hsnd]; · iexact Hsnd
    isplitl [Hrcv]; · iexact Hrcv
    isplitl [HO]; · iexact HO
    isplitl [HtS]; · iexact HtS
    isplitr; · iexact Hrs
    isplitl [HtR]; · iexact HtR
    iexact Hrr
  iintro ⟨HcS, HO⟩
  iapply Hk
  isplitl [Hback HatS HcS]
  · iapply Hback
    unfold outFlying
    isplitl [HatS] <;> iassumption
  · iexists W; iexact HO

set_option maxHeartbeats 800000 in
/-- A hop in through slot `i`: the kernel waits for the left neighbour's transfer and reads the landing slot — what the left
    neighbour sent. It may do so while it owes the transfers from a later slot on. -/
theorem hop_in (i : Fin 12) (a : ℕ) (ha : i.val < a) {off : Fin 3 → ℕ} (hoff : off = slotOff i) {sR : DmaSem sig} (hR : sR = recvS i)
    {inb₁ inb₂ inb₃ : ∀ a, off a + S1x32x2048.size a ≤ S3x128x2048.size a} {hl hsrc hdst}
    {α : Type} {Q : α → sProp 𝕄} {k : Vec F S1x32x2048 .bf16 → Prog (TpuEff nD τ sig (Elt F) Λ₀ .tc) α} :
    iprop(records m ρ K ∗ levAts L lv ∗ receiving c i.val ∗ owing c (owedFrom c a))
      ⊢ iprop(((receiving c (i.val + 1) ∗ owing c (owedFrom c a))
            -∗ wp frame (wpE (defs₀ (F := F)) 𝒱₀ (c : Thread nD τ) none) Set.univ (k (sent m ρ i (prv c))) Q)
          -∗ wp frame (wpE (defs₀ (F := F)) 𝒱₀ (c : Thread nD τ) none) Set.univ
              (.op (.waitDma2 sR (slotM sndM off inb₁) (slotM rcvM off inb₂) hsrc hdst) fun _ =>
                .op (.load rcvM (Rect.unit (s := S3x128x2048) off S1x32x2048.size inb₃).toLoadRect hl) k) Q) := by
  subst hoff; subst hR
  iintro ⟨#HR, #Hlev, HS, HO⟩ Hk
  ihave H := (receiving_recv (F := F) c i) $$ HS
  icases H with ⟨Hw, Hback⟩
  unfold inWaiting owing
  icases Hw with ⟨HatR, HcR⟩
  icases HO with ⟨%W, HO⟩
  ihave #HIr := (records_inv m ρ K (c, .inr (.inr i))) $$ HR
  iapply (Rounds.wp_wait_rest_token 𝒱₀ ER (ringRd m ρ) (c : Thread nD τ) none (κ := K (c, .inr (.inr i)))
      (wpE_waitDma2_eq 𝒱₀ (c : Thread nD τ) none Set.univ) (Set.mem_univ _) () (O := owedFrom c a) (W := W) (R := 0) (m := 0) (T := ∅)
      (by rw [Nat.zero_add, expect_recv])) $$ [HcR HO HatR]
  · isplitr; · iexact HIr
    isplitl [HcR]; · iexact HcR
    isplitl [HO]; · iexact HO
    isplitr; · iapply (mayWait_recv c i a ha); iexact Hlev
    iexact HatR
  iintro ⟨HO, HatR, -, Hpay⟩
  ihave Hp := (Entails.of_eq (rest_recv m ρ c i)) $$ Hpay
  unfold slotHas slotPts
  icases Hp with ⟨%f, %hf, Hrcv⟩
  imod (Rounds.cell_close ER (ringRd m ρ) (Set.mem_univ (K (c, .inr (.inr i)))) (fun h => h) (R := 0 + 1) (duties_later m ρ (recvCell c i))) $$ [HatR] with HzR
  · isplitr; · iexact HIr
    iexact HatR
  iapply (wp_load_rect 𝒱₀ (c : Thread nD τ) none Set.univ (m := rcvM) (r := slotRect i) (by exact Finset.Subset.refl _)) $$ Hrcv; iintro Hrcv
  rw [show (rcvM.access (slotRect i)).read (Elt F) f = sent m ρ i (prv c) from hf]
  iapply Hk
  isplitl [Hback Hrcv HzR]
  · iapply Hback
    unfold inDone slotAny slotPts
    isplitl [Hrcv]
    · iexists f; iexact Hrcv
    · iexact HzR
  · iexists _; iexact HO

set_option maxHeartbeats 800000 in
/-- The wait for the end of the transfer of slot `i`, all twelve sent: the send slot comes back. -/
theorem send_wait (i : Fin 12) {off : Fin 3 → ℕ} (hoff : off = slotOff i) {sS : DmaSem sig} (hS : sS = sendS i)
    {inb₁ inb₂ : ∀ a, off a + S1x32x2048.size a ≤ S3x128x2048.size a} {hsrc hdst}
    {α : Type} {Q : α → sProp 𝕄} {k : PUnit → Prog (TpuEff nD τ sig (Elt F) Λ₀ .tc) α} :
    iprop(records m ρ K ∗ sending c 12 i.val ∗ owing c (owedFrom c 12))
      ⊢ iprop(((sending c 12 (i.val + 1) ∗ owing c (owedFrom c 12))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (slotM rcvM off inb₁) (slotM sndM off inb₂) hsrc hdst) k) Q) := by
  subst hoff; subst hS
  rw [owedFrom_last]
  iintro ⟨#HR, HS, HO⟩ Hk
  ihave H := (sending_wait (F := F) c i) $$ HS
  icases H with ⟨Hw, Hback⟩
  unfold outFlying owing
  icases Hw with ⟨HatS, HcS⟩
  icases HO with ⟨%W, HO⟩
  ihave #HIs := (records_inv m ρ K (c, .inr (.inl i))) $$ HR
  iapply (Rounds.wp_wait_rest_token 𝒱₀ ER (ringRd m ρ) (c : Thread nD τ) none (κ := K (c, .inr (.inl i)))
      (wpE_waitDma2_eq 𝒱₀ (c : Thread nD τ) none Set.univ) (Set.mem_univ _) () (O := 0) (W := W) (R := 0) (m := 0) (T := ∅)
      (by rw [Nat.zero_add, expect_send])) $$ [HcS HO HatS]
  · isplitr; · iexact HIs
    isplitl [HcS]; · iexact HcS
    isplitl [HO]; · iexact HO
    isplitr; · rw [MayWait_zero]; iempintro
    iexact HatS
  iintro ⟨HO, HatS, -, Hpay⟩
  ihave Hp := (Entails.of_eq (rest_send m ρ c i)) $$ Hpay
  imod (Rounds.cell_close ER (ringRd m ρ) (Set.mem_univ (K (c, .inr (.inl i)))) (fun h => h) (R := 0 + 1) (duties_later m ρ (sendCell c i))) $$ [HatS] with HzS
  · isplitr; · iexact HIs
    iexact HatS
  iapply Hk
  isplitl [Hback Hp HzS]
  · iapply Hback
    unfold outDone
    isplitl [Hp] <;> iassumption
  · iexists _; iexact HO

/-- The partial product held whole on device `c`. -/
def partPts : sProp 𝕄 := ((c : Thread nD τ).loc cc0_scratch0) ↦{fullShare} part m ρ c

/-- A load of the rows that hop `s` adds in quarter `q`. -/
theorem load_rows (s q : Fin 4) {off : Fin 2 → ℕ} (hoff : off = partOff c s q) {inb : ∀ a, off a + S32x2048.size a ≤ S512x2048.size a} {hl}
    {α : Type} {Q : α → sProp 𝕄} {k : Vec F S32x2048 .f32 → Prog (TpuEff nD τ sig (Elt F) Λ₀ .tc) α} :
    partPts m ρ c
      ⊢ iprop((partPts m ρ c -∗ wp frame (wpE (defs₀ (F := F)) 𝒱₀ (c : Thread nD τ) none) Set.univ (k (rows m ρ c s q)) Q)
          -∗ wp frame (wpE (defs₀ (F := F)) 𝒱₀ (c : Thread nD τ) none) Set.univ
              (.op (.load parM (Rect.unit (s := S512x2048) off S32x2048.size inb).toLoadRect hl) k) Q) := by
  subst hoff
  unfold partPts
  exact wp_load 𝒱₀ (c : Thread nD τ) none Set.univ (m := parM) (Finset.subset_univ _)

/-- The result's buffer on device `c` with the quarters before `n` at the result. -/
def outPts (n : ℕ) : sProp 𝕄 :=
  iprop(∃ f : (cc0_stg2_0 : Ref sig .tc).ty.Contents (Elt F), ⌜∀ j : S128x2048.Idx, (j 0).val < 32 * n → f j = outAt m ρ c j⌝
    ∗ (((c : Thread nD τ).loc cc0_stg2_0) ↦{fullShare} f))

/-- A store of quarter `q` of the result: the buffer's earlier rows stay, the quarter's rows are the result's. -/
theorem outAt_store (q : Fin 4) (f : (cc0_stg2_0 : Ref sig .tc).ty.Contents (Elt F)) {off : Fin 2 → ℕ} (hoff : off = ![32 * q.val, 0])
    {inb : ∀ a, off a + S32x2048.size a ≤ S128x2048.size a}
    (hf : ∀ j : S128x2048.Idx, (j 0).val < 32 * q.val → f j = outAt m ρ c j) (j : S128x2048.Idx) (hj : (j 0).val < 32 * (q.val + 1)) :
    ((outM : Memref sig .tc .vmem S128x2048 .f32).access (Rect.unit (s := S128x2048) off S32x2048.size inb)).write (Elt F) f (outBlk m ρ c q) Finset.univ j
      = outAt m ρ c j := by
  subst hoff
  by_cases hlt : (j 0).val < 32 * q.val
  · rw [View.write_of_not_mem]
    · exact hf j hlt
    · rw [View.setOn_univ, View.set_slice_whole, Rect.mem_set_unit]
      intro h
      have h0 : 32 * q.val ≤ (j 0).val ∧ (j 0).val < 32 * q.val + 32 := h 0
      omega
  · have e : ((outM : Memref sig .tc .vmem S128x2048 .f32).access (Rect.unit (s := S128x2048) ![32 * q.val, 0] S32x2048.size inb)).emb
        (ix2 (⟨(j 0).val % 32, Nat.mod_lt _ (by decide)⟩ : Fin 32) (⟨(j 1).val, (j 1).isLt⟩ : Fin 2048)) = j := by
      funext a
      fin_cases a
      · exact Fin.ext (show 32 * q.val + 1 * ((j 0).val % 32) = (j 0).val by omega)
      · exact Fin.ext (show 0 + 1 * (j 1).val = (j 1).val by omega)
    have h := View.write_emb_of_mem (v := (outM : Memref sig .tc .vmem S128x2048 .f32).access (Rect.unit (s := S128x2048) ![32 * q.val, 0] S32x2048.size inb))
      (Val := Elt F) f (outBlk m ρ c q) (M := Finset.univ)
      (x := ix2 (⟨(j 0).val % 32, Nat.mod_lt _ (by decide)⟩ : Fin 32) (⟨(j 1).val, (j 1).isLt⟩ : Fin 2048)) (Finset.mem_univ _)
    rw [e] at h
    refine h.trans ?_
    have hq : (⟨(j 0).val / 32, by have h : (j 0).val < 128 := (j 0).isLt; omega⟩ : Fin 4) = q := Fin.ext (by show (j 0).val / 32 = q.val; omega)
    show outBlk m ρ c q _ = outBlk m ρ c _ _
    rw [hq]

/-- The last hop's store of quarter `q`: the kernel reads the quarter (and drops what it read) and stores the result's. -/
theorem store_out (q : Fin 4) {off : Fin 2 → ℕ} (hoff : off = ![32 * q.val, 0]) {v : Vec F S32x2048 .f32} (hv : v = outBlk m ρ c q)
    {inb₁ inb₂ : ∀ a, off a + S32x2048.size a ≤ S128x2048.size a} {hl hx hm}
    {α : Type} {Q : α → sProp 𝕄} {k : PUnit → Prog (TpuEff nD τ sig (Elt F) Λ₀ .tc) α} :
    outPts m ρ c q.val
      ⊢ iprop((outPts m ρ c (q.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.load outM (Rect.unit (s := S128x2048) off S32x2048.size inb₁).toLoadRect hl) fun _ =>
                .op (.store outM (Rect.unit (s := S128x2048) off S32x2048.size inb₂) v Finset.univ hx hm) k) Q) := by
  subst hv
  unfold outPts
  iintro ⟨%f, %hf, H⟩ Hk
  iapply (wp_load 𝒱₀ (c : Thread nD τ) none Set.univ (m := outM) (Finset.subset_univ _)) $$ H; iintro H
  iapply (wp_store 𝒱₀ (c : Thread nD τ) none Set.univ (m := outM) (r := Rect.unit (s := S128x2048) off S32x2048.size inb₂) (Mk := Finset.univ)
    (Finset.subset_univ _)) $$ H
  iintro H
  iapply Hk
  iexists _
  isplitr
  rotate_left
  · iexact H
  · ipureintro; exact fun j hj => outAt_store m ρ c q f hoff hf j hj

end Steps

end Cert.RingProof

end
-- ==== Proof.Hops.lean ====
/-
# 01_k — `Hops`: the ring's rounds as whole steps, at a symbolic slot

What a device holds between two rounds is one assertion, `running`, indexed by how many slots it has sent, received and
waited for, and how many quarters of the result it has stored. A quarter's first send, a round in the middle, a round that
ends in the result, and a wait for a send each take `running` to `running`.
-/
module

public import proofs.«01_k».proof.Proof.Steps

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-- What device `c` holds with the slots before `a` sent, those before `b` received, those before `d` waited for, and the
    quarters before `n` of the result stored. -/
def running (a b d n : ℕ) : sProp 𝕄 :=
  iprop(records m ρ K ∗ levAts L lv ∗ sending c a d ∗ receiving c b ∗ owing c (owedFrom c a) ∗ partPts m ρ c ∗ outPts m ρ c n)

/-- A whole buffer is read and written at offset zero. -/
theorem zero2 : (![0, 0] : Fin 2 → ℕ) = fun _ => 0 := by funext a; fin_cases a <;> rfl

/-- The product: both staged blocks are read whole, the buffer of the partial product is read (and dropped) and overwritten. -/
theorem product {off₀ off₁ off₂ off₃ : Fin 2 → ℕ} (h₀ : off₀ = fun _ => 0) (h₁ : off₁ = fun _ => 0) (h₃ : off₃ = fun _ => 0)
    {v : Vec F S512x512 .bf16 → Vec F S512x2048 .bf16 → Vec F S512x2048 .f32} (hv : v (xstg m ρ c) (dystg m ρ c) = part m ρ c)
    {inb₀ : ∀ a, off₀ a + S512x512.size a ≤ S512x512.size a} {inb₁ : ∀ a, off₁ a + S512x2048.size a ≤ S512x2048.size a}
    {inb₂ : ∀ a, off₂ a + S512x2048.size a ≤ S512x2048.size a} {inb₃ : ∀ a, off₃ a + S512x2048.size a ≤ S512x2048.size a}
    {hl₀ hl₁ hl₂ hx hm} {α : Type} {Q : α → sProp 𝕄} {k : Vec F S512x512 .bf16 → Vec F S512x2048 .bf16 → PUnit → Prog (TpuEff nD τ sig (Elt F) Λ₀ .tc) α} :
    iprop((((c : Thread nD τ).loc cc0_stg0_0) ↦{fullShare} xstg m ρ c) ∗ (((c : Thread nD τ).loc cc0_stg1_0) ↦{fullShare} dystg m ρ c)
        ∗ (∃ f : Buf (Elt F) ((c : Thread nD τ).loc cc0_scratch0), ((c : Thread nD τ).loc cc0_scratch0) ↦{fullShare} f))
      ⊢ iprop(((((c : Thread nD τ).loc cc0_stg0_0) ↦{fullShare} xstg m ρ c) ∗ (((c : Thread nD τ).loc cc0_stg1_0) ↦{fullShare} dystg m ρ c)
              ∗ partPts m ρ c -∗ wp frame (wpE (defs₀ (F := F)) 𝒱₀ (c : Thread nD τ) none) Set.univ (k (xstg m ρ c) (dystg m ρ c) ⟨⟩) Q)
          -∗ wp frame (wpE (defs₀ (F := F)) 𝒱₀ (c : Thread nD τ) none) Set.univ
              (.op (.load xM (Rect.unit (s := S512x512) off₀ S512x512.size inb₀).toLoadRect hl₀) fun x =>
                .op (.load dyM (Rect.unit (s := S512x2048) off₁ S512x2048.size inb₁).toLoadRect hl₁) fun y =>
                .op (.load parM (Rect.unit (s := S512x2048) off₂ S512x2048.size inb₂).toLoadRect hl₂) fun _ =>
                .op (.store parM (Rect.unit (s := S512x2048) off₃ S512x2048.size inb₃) (v x y) Finset.univ hx hm) (k x y)) Q) := by
  have ex : (xM : Memref sig .tc .vmem S512x512 .bf16).view.readAt (Elt F) (Rect.unit (s := S512x512) off₀ S512x512.size inb₀).toLoadRect (xstg m ρ c)
      = xstg m ρ c := Memref.readAt_unit_zero (Elt F) cc0_stg0_0 h₀ inb₀ (xstg m ρ c)
  have ey : (dyM : Memref sig .tc .vmem S512x2048 .bf16).view.readAt (Elt F) (Rect.unit (s := S512x2048) off₁ S512x2048.size inb₁).toLoadRect (dystg m ρ c)
      = dystg m ρ c := Memref.readAt_unit_zero (Elt F) cc0_stg1_0 h₁ inb₁ (dystg m ρ c)
  iintro ⟨Hx, Hdy, ⟨%f, Hp⟩⟩ Hk
  iapply (wp_load 𝒱₀ (c : Thread nD τ) none Set.univ (m := xM) (Finset.subset_univ _)) $$ Hx; iintro Hx
  rw [ex]
  iapply (wp_load 𝒱₀ (c : Thread nD τ) none Set.univ (m := dyM) (Finset.subset_univ _)) $$ Hdy; iintro Hdy
  rw [ey]
  iapply (wp_load 𝒱₀ (c : Thread nD τ) none Set.univ (m := parM) (Finset.subset_univ _)) $$ Hp; iintro Hp
  iapply (wp_store 𝒱₀ (c : Thread nD τ) none Set.univ (m := parM)
    (r := Rect.unit (s := S512x2048) off₃ S512x2048.size inb₃) (Mk := Finset.univ) (Finset.subset_univ _)) $$ Hp
  iintro Hp
  have ew : ((parM : Memref sig .tc .vmem S512x2048 .f32).access (Rect.unit (s := S512x2048) off₃ S512x2048.size inb₃)).write (Elt F) f
      (v (xstg m ρ c) (dystg m ρ c)) Finset.univ = part m ρ c :=
    (Memref.write_access_unit_zero_univ (Elt F) cc0_scratch0 h₃ inb₃ f (v (xstg m ρ c) (dystg m ρ c))).trans hv
  rw [ew]
  iapply Hk
  isplitl [Hx]; · iexact Hx
  isplitl [Hdy]; · iexact Hdy
  unfold partPts
  iexact Hp

set_option maxHeartbeats 800000 in
/-- A quarter's first send: its rows are read, and go out through slot `i`. -/
theorem first_hop (i : Fin 12) (a a' : ℕ) (ha : a = i.val) (ha' : a' = i.val + 1) (s q : Fin 4) (n : Dev nD) (hn : n = nxt c) {offR : Fin 2 → ℕ} (hoffR : offR = partOff c s q)
    {off : Fin 3 → ℕ} (hoff : off = slotOff i) {v : Vec F S32x2048 .f32 → Vec F S1x32x2048 .bf16}
    (hv : v (rows m ρ c s q) = sent m ρ i c) {sS sR : DmaSem sig} (hS : sS = sendS i) (hR : sR = recvS i)
    {inbR : ∀ a, offR a + S32x2048.size a ≤ S512x2048.size a} {hlR}
    {inb₁ inb₂ inb₃ inb₄ : ∀ a, off a + S1x32x2048.size a ≤ S3x128x2048.size a} {hl hx hm hsc hsrc hdst hsem}
    {α : Type} {Q : α → sProp 𝕄} {k : Vec F S32x2048 .f32 → PUnit → Prog (TpuEff nD τ sig (Elt F) Λ₀ .tc) α} :
    running m ρ K c a 0 0 0
      ⊢ iprop((running m ρ K c a' 0 0 0 -∗ wp frame (wpE (defs₀ (F := F)) 𝒱₀ (c : Thread nD τ) none) Set.univ (k (rows m ρ c s q) ⟨⟩) Q)
          -∗ wp frame (wpE (defs₀ (F := F)) 𝒱₀ (c : Thread nD τ) none) Set.univ
              (.op (.load parM (Rect.unit (s := S512x2048) offR S32x2048.size inbR).toLoadRect hlR) fun r =>
                .op (.load sndM (Rect.unit (s := S3x128x2048) off S1x32x2048.size inb₁).toLoadRect hl) fun _ =>
                .op (.store sndM (Rect.unit (s := S3x128x2048) off S1x32x2048.size inb₂) (v r) Finset.univ hx hm) fun _ =>
                  .op (.enqueueDma (slotM sndM off inb₃) (.remote (Dev.tc n : Thread nD τ) (slotM rcvM off inb₄) (.dma sS) hsc) (.dma sR)
                    hsrc hdst hsem) (k r)) Q) := by
  subst ha; subst ha'
  unfold running
  iintro ⟨#HR, #HL, HS, HV, HO, HP, HT⟩ Hk
  iapply (load_rows m ρ c s q hoffR) $$ HP; iintro HP
  iapply (hop_out m ρ K c n hn i hoff hv hS hR) $$ [HS HO]
  · isplitr; · iexact HR
    isplitl [HS] <;> iassumption
  iintro ⟨HS, HO⟩
  iapply Hk
  isplitr; · iexact HR
  isplitr; · iexact HL
  isplitl [HS]; · iexact HS
  isplitl [HV]; · iexact HV
  isplitl [HO]; · iexact HO
  isplitl [HP] <;> iassumption

set_option maxHeartbeats 800000 in
/-- A round in the middle: what arrives in slot `i` is read, the device's own rows are read, and their sum goes out through
    slot `j`, the next hop's slot of the same quarter. -/
theorem mid_hop (i j : Fin 12) (a a' b b' : ℕ) (ha : a = j.val) (ha' : a' = j.val + 1) (hb : b = i.val) (hb' : b' = i.val + 1) (s q : Fin 4) (hij : i.val < j.val) (n : Dev nD) (hn : n = nxt c) {offI : Fin 3 → ℕ} (hoffI : offI = slotOff i)
    {sI : DmaSem sig} (hI : sI = recvS i) {offR : Fin 2 → ℕ} (hoffR : offR = partOff c s q) {off : Fin 3 → ℕ} (hoff : off = slotOff j)
    {v : Vec F S1x32x2048 .bf16 → Vec F S32x2048 .f32 → Vec F S1x32x2048 .bf16}
    (hv : v (sent m ρ i (prv c)) (rows m ρ c s q) = sent m ρ j c) {sS sR : DmaSem sig} (hS : sS = sendS j) (hR : sR = recvS j)
    {inbI₁ inbI₂ inbI₃ : ∀ a, offI a + S1x32x2048.size a ≤ S3x128x2048.size a} {hsrcI hdstI hlI}
    {inbR : ∀ a, offR a + S32x2048.size a ≤ S512x2048.size a} {hlR}
    {inb₁ inb₂ inb₃ inb₄ : ∀ a, off a + S1x32x2048.size a ≤ S3x128x2048.size a} {hl hx hm hsc hsrc hdst hsem}
    {α : Type} {Q : α → sProp 𝕄} {k : Vec F S1x32x2048 .bf16 → Vec F S32x2048 .f32 → PUnit → Prog (TpuEff nD τ sig (Elt F) Λ₀ .tc) α} :
    running m ρ K c a b 0 0
      ⊢ iprop((running m ρ K c a' b' 0 0 -∗ wp frame (wpE (defs₀ (F := F)) 𝒱₀ (c : Thread nD τ) none) Set.univ (k (sent m ρ i (prv c)) (rows m ρ c s q) ⟨⟩) Q)
          -∗ wp frame (wpE (defs₀ (F := F)) 𝒱₀ (c : Thread nD τ) none) Set.univ
              (.op (.waitDma2 sI (slotM sndM offI inbI₁) (slotM rcvM offI inbI₂) hsrcI hdstI) fun _ =>
                .op (.load rcvM (Rect.unit (s := S3x128x2048) offI S1x32x2048.size inbI₃).toLoadRect hlI) fun w =>
                .op (.load parM (Rect.unit (s := S512x2048) offR S32x2048.size inbR).toLoadRect hlR) fun r =>
                .op (.load sndM (Rect.unit (s := S3x128x2048) off S1x32x2048.size inb₁).toLoadRect hl) fun _ =>
                .op (.store sndM (Rect.unit (s := S3x128x2048) off S1x32x2048.size inb₂) (v w r) Finset.univ hx hm) fun _ =>
                  .op (.enqueueDma (slotM sndM off inb₃) (.remote (Dev.tc n : Thread nD τ) (slotM rcvM off inb₄) (.dma sS) hsc) (.dma sR)
                    hsrc hdst hsem) (k w r)) Q) := by
  subst ha; subst ha'; subst hb; subst hb'
  unfold running
  iintro ⟨#HR, #HL, HS, HV, HO, HP, HT⟩ Hk
  iapply (hop_in m ρ K c i j.val hij hoffI hI) $$ [HV HO]
  · isplitr; · iexact HR
    isplitr; · iexact HL
    isplitl [HV] <;> iassumption
  iintro ⟨HV, HO⟩
  iapply (load_rows m ρ c s q hoffR) $$ HP; iintro HP
  iapply (hop_out m ρ K c n hn j hoff hv hS hR) $$ [HS HO]
  · isplitr; · iexact HR
    isplitl [HS] <;> iassumption
  iintro ⟨HS, HO⟩
  iapply Hk
  isplitr; · iexact HR
  isplitr; · iexact HL
  isplitl [HS]; · iexact HS
  isplitl [HV]; · iexact HV
  isplitl [HO]; · iexact HO
  isplitl [HP] <;> iassumption

set_option maxHeartbeats 800000 in
/-- A last round: what arrives in slot `i` is read, the device's own rows are read, and their sum is stored as quarter `q` of
    the result. -/
theorem last_hop (i : Fin 12) (s q : Fin 4) (b b' n n' : ℕ) (hb : b = i.val) (hb' : b' = i.val + 1) (hn : n = q.val) (hn' : n' = q.val + 1) {offI : Fin 3 → ℕ} (hoffI : offI = slotOff i)
    {sI : DmaSem sig} (hI : sI = recvS i) {offR : Fin 2 → ℕ} (hoffR : offR = partOff c s q) {off : Fin 2 → ℕ} (hoff : off = ![32 * q.val, 0])
    {v : Vec F S1x32x2048 .bf16 → Vec F S32x2048 .f32 → Vec F S32x2048 .f32}
    (hv : v (sent m ρ i (prv c)) (rows m ρ c s q) = outBlk m ρ c q)
    {inbI₁ inbI₂ inbI₃ : ∀ a, offI a + S1x32x2048.size a ≤ S3x128x2048.size a} {hsrcI hdstI hlI}
    {inbR : ∀ a, offR a + S32x2048.size a ≤ S512x2048.size a} {hlR}
    {inb₁ inb₂ : ∀ a, off a + S32x2048.size a ≤ S128x2048.size a} {hl hx hm}
    {α : Type} {Q : α → sProp 𝕄} {k : Vec F S1x32x2048 .bf16 → Vec F S32x2048 .f32 → PUnit → Prog (TpuEff nD τ sig (Elt F) Λ₀ .tc) α} :
    running m ρ K c 12 b 0 n
      ⊢ iprop((running m ρ K c 12 b' 0 n' -∗ wp frame (wpE (defs₀ (F := F)) 𝒱₀ (c : Thread nD τ) none) Set.univ (k (sent m ρ i (prv c)) (rows m ρ c s q) ⟨⟩) Q)
          -∗ wp frame (wpE (defs₀ (F := F)) 𝒱₀ (c : Thread nD τ) none) Set.univ
              (.op (.waitDma2 sI (slotM sndM offI inbI₁) (slotM rcvM offI inbI₂) hsrcI hdstI) fun _ =>
                .op (.load rcvM (Rect.unit (s := S3x128x2048) offI S1x32x2048.size inbI₃).toLoadRect hlI) fun w =>
                .op (.load parM (Rect.unit (s := S512x2048) offR S32x2048.size inbR).toLoadRect hlR) fun r =>
                .op (.load outM (Rect.unit (s := S128x2048) off S32x2048.size inb₁).toLoadRect hl) fun _ =>
                .op (.store outM (Rect.unit (s := S128x2048) off S32x2048.size inb₂) (v w r) Finset.univ hx hm) (k w r)) Q) := by
  subst hb; subst hb'; subst hn; subst hn'
  unfold running
  iintro ⟨#HR, #HL, HS, HV, HO, HP, HT⟩ Hk
  iapply (hop_in m ρ K c i 12 i.isLt hoffI hI) $$ [HV HO]
  · isplitr; · iexact HR
    isplitr; · iexact HL
    isplitl [HV] <;> iassumption
  iintro ⟨HV, HO⟩
  iapply (load_rows m ρ c s q hoffR) $$ HP; iintro HP
  iapply (store_out m ρ c q hoff hv) $$ HT; iintro HT
  iapply Hk
  isplitr; · iexact HR
  isplitr; · iexact HL
  isplitl [HS]; · iexact HS
  isplitl [HV]; · iexact HV
  isplitl [HO]; · iexact HO
  isplitl [HP] <;> iassumption

/-- A wait for the transfer of slot `i` to have left. -/
theorem end_wait (i : Fin 12) (d d' : ℕ) (hd : d = i.val) (hd' : d' = i.val + 1) {off : Fin 3 → ℕ} (hoff : off = slotOff i) {sS : DmaSem sig} (hS : sS = sendS i)
    {inb₁ inb₂ : ∀ a, off a + S1x32x2048.size a ≤ S3x128x2048.size a} {hsrc hdst}
    {α : Type} {Q : α → sProp 𝕄} {k : PUnit → Prog (TpuEff nD τ sig (Elt F) Λ₀ .tc) α} :
    running m ρ K c 12 12 d 4
      ⊢ iprop((running m ρ K c 12 12 d' 4 -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (slotM rcvM off inb₁) (slotM sndM off inb₂) hsrc hdst) k) Q) := by
  subst hd; subst hd'
  unfold running
  iintro ⟨#HR, #HL, HS, HV, HO, HP, HT⟩ Hk
  iapply (send_wait m ρ K c i hoff hS) $$ [HS HO]
  · isplitr; · iexact HR
    isplitl [HS] <;> iassumption
  iintro ⟨HS, HO⟩
  iapply Hk
  isplitr; · iexact HR
  isplitr; · iexact HL
  isplitl [HS]; · iexact HS
  isplitl [HV]; · iexact HV
  isplitl [HO]; · iexact HO
  isplitl [HP] <;> iassumption

end Cert.RingProof

end
-- ==== Proof.Body.lean ====
/-
# 01_k — `Body`: the kernel's body once, on a symbolic device

From what a device starts with to what it ends with, one rule per effect in program order: the two barrier signals and the
wait for both neighbours, the product, then the hops of the ring by the rules of `Hops`.
-/
module

public import proofs.«01_k».proof.Proof.Hops
public import proofs.«01_k».proof.Proof.Gen.KernelIdeal.Skeleton

@[expose] public section

set_option maxRecDepth 16384

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ) (c : Dev nD)

/-! ## Before and after -/

/-- Slot `i` of the sending side as device `c` starts: the send slot, the two duties its transfer pays, the position at the
    send cell — all but the right neighbour's landing slot, which the barrier brings. -/
def outHeld (i : Fin 12) : sProp 𝕄 :=
  iprop(slotAny sndM c i ∗ dutyTok ER (sendCell c i) 0 false ∗ dutyTok ER (recvCell (nxt c) i) 0 false ∗ atPos ER (sendCell c i) 0 ∅ 0)

/-- What device `c` starts the body with. -/
def bodyStart : sProp 𝕄 :=
  iprop(records m ρ K ∗ levAts L lv
    ∗ (atPos ER (barCell c) 0 ∅ 0 ∗ cred (tallyAt (barCell c) () 2) ∗ dutyTok ER (barCell (prv c)) 0 true ∗ dutyTok ER (barCell (nxt c)) 0 false)
    ∗ (bigSep Finset.univ fun i : Fin 12 => outHeld (F := F) c i) ∗ (bigSep Finset.univ fun i : Fin 12 => slotAny (F := F) rcvM c i)
    ∗ receiving c 0 ∗ owing c (O₀ c)
    ∗ (∃ f : Buf (Elt F) ((c : Thread nD τ).loc cc0_scratch0), ((c : Thread nD τ).loc cc0_scratch0) ↦{fullShare} f)
    ∗ (((c : Thread nD τ).loc cc0_stg0_0) ↦{fullShare} xstg m ρ c) ∗ (((c : Thread nD τ).loc cc0_stg1_0) ↦{fullShare} dystg m ρ c)
    ∗ (∃ f : Buf (Elt F) ((c : Thread nD τ).loc cc0_stg2_0), ((c : Thread nD τ).loc cc0_stg2_0) ↦{fullShare} f))

/-- What it ends it with: every cell closed at zero, the buffers, the result. -/
def bodyEnd : sProp 𝕄 :=
  iprop(semVal (barCell c) 0 ∗ sending c 12 12 ∗ receiving c 12 ∗ owing c 0 ∗ partPts m ρ c
    ∗ (((c : Thread nD τ).loc cc0_stg0_0) ↦{fullShare} xstg m ρ c) ∗ (((c : Thread nD τ).loc cc0_stg1_0) ↦{fullShare} dystg m ρ c)
    ∗ (((c : Thread nD τ).loc cc0_stg2_0) ↦{fullShare} outAt m ρ c))

omit [FloatOps F] in
/-- With the right neighbour's landing slots, everything is ready to be sent. -/
theorem sending_start : iprop((bigSep Finset.univ fun i : Fin 12 => outHeld (F := F) c i) ∗ barPay (F := F) c) ⊢ sending (F := F) c 0 0 := by
  unfold barPay sending
  rw [← bigSep_sep']
  refine bigSep_mono fun i _ => ?_
  have e : outAtStep (F := F) c 0 0 i = outReady c i := by
    unfold outAtStep; rw [if_neg (by omega), if_neg (by omega)]
  rw [e]
  unfold outHeld outReady
  show iprop((slotAny sndM c i ∗ dutyTok ER (sendCell c i) 0 false ∗ dutyTok ER (recvCell (nxt c) i) 0 false ∗ atPos ER (sendCell c i) 0 ∅ 0)
      ∗ slotAny rcvM (nxt c) i : sProp 𝕄) ⊢ _
  iintro ⟨⟨H1, H2, H3, H4⟩, H5⟩
  isplitl [H1]; · iexact H1
  isplitl [H5]; · iexact H5
  isplitl [H2]; · iexact H2
  isplitl [H3] <;> iassumption

/-- The result's buffer with all four quarters stored holds the result. -/
theorem outPts_full : outPts m ρ c 4 ⊢ (((c : Thread nD τ).loc cc0_stg2_0) ↦{fullShare} outAt m ρ c : sProp 𝕄) := by
  unfold outPts
  iintro ⟨%f, %hf, H⟩
  have e : f = outAt m ρ c := funext fun j => hf j (by have h : (j 0).val < 128 := (j 0).isLt; omega)
  rw [e]
  iexact H

/-! ## The body -/

set_option maxHeartbeats 8000000 in
/-- The body, symbolically executed from `bodyStart`, one rule per effect in program order, to `bodyEnd`. -/
theorem run_body (Kt : PUnit → sProp 𝕄) :
    iprop(bodyStart m ρ K c ∗ (bodyEnd m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel
  simp only [semSignalWord, semWaitWord, Prog.lift, Prog.bind_op, Prog.bind_ret, Prog.pure_eq_ret, wp_deviceId]
  have e1 : (⟨k0_dev1 c, k0_dev1_lt c⟩ : Dev nD) = prv c := Fin.ext (k0_dev1_eq c)
  have e2 : (⟨k0_dev2 c, k0_dev2_lt c⟩ : Dev nD) = nxt c := Fin.ext (k0_dev2_eq c)
  unfold bodyStart
  iintro ⟨⟨#HR, #HL, ⟨HatB, HcB, HtP, HtN⟩, HS, Hrcv, HV, HO, ⟨%f3, Hp⟩, Hx, Hdy, ⟨%f2, Hout⟩⟩, Hk⟩
  unfold owing
  icases HO with ⟨%W, HO⟩
  ihave #HIb := (records_inv m ρ K (c, .inl ())) $$ HR
  ihave #HIp := (records_inv m ρ K (prv c, .inl ())) $$ HR
  ihave #HIn := (records_inv m ρ K (nxt c, .inl ())) $$ HR
  ihave #HrP := (records_reached m ρ K (prv c, .inl ())) $$ HR
  ihave #HrN := (records_reached m ρ K (nxt c, .inl ())) $$ HR
  simp only [e1, e2]
  -- the signal to the left neighbour, with this device's landing buffer
  iapply (Rounds.wp_signal 𝒱₀ ER (ringRd m ρ) (c : Thread nD τ) none (dst := (prv c : Thread nD τ)) (κ := K (prv c, .inl ()))
      (d := true) (by rw [duties_bar]; exact Finset.mem_univ _) ((amount_bar m ρ (prv c) true).trans (by decide)) () (O₁ c) rfl)
    $$ [HO HtP Hrcv]
  · isplitr; · iexact HIp
    isplitl [HO]; · iexact HO
    isplitl [HtP]; · iexact HtP
    isplitl [Hrcv]
    · rw [payload_bar_true]; unfold barPay; rw [nxt_prv]; iexact Hrcv
    · iexact HrP
  iintro HO
  -- the signal to the right neighbour, with nothing
  unfold O₁
  iapply (Rounds.wp_signal 𝒱₀ ER (ringRd m ρ) (c : Thread nD τ) none (dst := (nxt c : Thread nD τ)) (κ := K (nxt c, .inl ()))
      (d := false) (by rw [duties_bar]; exact Finset.mem_univ _) ((amount_bar m ρ (nxt c) false).trans (by decide)) () (owedFrom c 0) rfl)
    $$ [HO HtN]
  · isplitr; · iexact HIn
    isplitl [HO]; · iexact HO
    isplitl [HtN]; · iexact HtN
    isplitr; · rw [payload_bar_false]; iempintro
    iexact HrN
  iintro HO
  -- the wait for both neighbours: the right one's landing buffer comes with it
  iapply (Rounds.wp_wait_rest_token 𝒱₀ ER (ringRd m ρ) (c : Thread nD τ) none (κ := K (c, .inl ()))
      (wpE_semWait_eq 𝒱₀ (c : Thread nD τ) none Set.univ) (Set.mem_univ _) () (O := owedFrom c 0) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact HL
    iexact HatB
  iintro ⟨HO, HatB, -, Hpay⟩
  ihave Hpb := (Entails.of_eq (rest_bar m ρ c)) $$ Hpay
  icases Hpb with ⟨-, Hland⟩
  imod (Rounds.cell_close ER (ringRd m ρ) (Set.mem_univ (K (c, .inl ()))) (fun h => h) (R := 0 + 1) (duties_later m ρ (barCell c))) $$ [HatB] with HzB
  · isplitr; · iexact HIb
    iexact HatB
  -- the product
  iapply (product m ρ c zero2 zero2 zero2 (v := fun x y => k0_pay2 (k0_pay1 x) y) rfl) $$ [Hx Hdy Hp]
  · isplitl [Hx]; · iexact Hx
    isplitl [Hdy]; · iexact Hdy
    iexists f3; iexact Hp
  iintro ⟨Hx, Hdy, Hp⟩
  -- the ring
  ihave H : running m ρ K c 0 0 0 0 $$ [HS Hland HV HO Hp Hout]
  · unfold running
    isplitr; · iexact HR
    isplitr; · iexact HL
    isplitl [HS Hland]
    · iapply (sending_start (F := F) c)
      isplitl [HS] <;> iassumption
    isplitl [HV]; · iexact HV
    isplitl [HO]; · unfold owing; iexists _; iexact HO
    isplitl [Hp]; · iexact Hp
    unfold outPts
    iexists f2
    isplitr; · ipureintro; exact fun j hj => absurd hj (Nat.not_lt_zero _)
    iexact Hout
  iapply (first_hop m ρ K c 0 0 1 rfl rfl 0 0 _ (Fin.ext (k0_dev3_eq c)) rfl rfl (v := fun r => k0_pay3 r) rfl rfl rfl) $$ H; iintro H
  iapply (first_hop m ρ K c 1 1 2 rfl rfl 0 1 _ (Fin.ext (k0_dev4_eq c)) rfl rfl (v := fun r => k0_pay4 r) rfl rfl rfl) $$ H; iintro H
  iapply (first_hop m ρ K c 2 2 3 rfl rfl 0 2 _ (Fin.ext (k0_dev5_eq c)) rfl rfl (v := fun r => k0_pay5 r) rfl rfl rfl) $$ H; iintro H
  iapply (first_hop m ρ K c 3 3 4 rfl rfl 0 3 _ (Fin.ext (k0_dev6_eq c)) rfl rfl (v := fun r => k0_pay7 (k0_pay6 r)) rfl rfl rfl) $$ H; iintro H
  iapply (mid_hop m ρ K c 0 4 4 5 0 1 rfl rfl rfl rfl 1 0 (by decide) _ (Fin.ext (k0_dev7_eq c)) rfl rfl rfl rfl (v := fun w r => k0_pay9 (k0_pay8 w) r) rfl rfl rfl) $$ H; iintro H
  iapply (mid_hop m ρ K c 1 5 5 6 1 2 rfl rfl rfl rfl 1 1 (by decide) _ (Fin.ext (k0_dev8_eq c)) rfl rfl rfl rfl (v := fun w r => k0_pay10 w r) rfl rfl rfl) $$ H; iintro H
  iapply (mid_hop m ρ K c 2 6 6 7 2 3 rfl rfl rfl rfl 1 2 (by decide) _ (Fin.ext (k0_dev9_eq c)) rfl rfl rfl rfl (v := fun w r => k0_pay12 (k0_pay11 w) r) rfl rfl rfl) $$ H; iintro H
  iapply (mid_hop m ρ K c 3 7 7 8 3 4 rfl rfl rfl rfl 1 3 (by decide) _ (Fin.ext (k0_dev10_eq c)) rfl rfl rfl rfl (v := fun w r => k0_pay13 w r) rfl rfl rfl) $$ H; iintro H
  iapply (mid_hop m ρ K c 4 8 8 9 4 5 rfl rfl rfl rfl 2 0 (by decide) _ (Fin.ext (k0_dev11_eq c)) rfl rfl rfl rfl (v := fun w r => k0_pay14 w r) rfl rfl rfl) $$ H; iintro H
  iapply (mid_hop m ρ K c 5 9 9 10 5 6 rfl rfl rfl rfl 2 1 (by decide) _ (Fin.ext (k0_dev12_eq c)) rfl rfl rfl rfl (v := fun w r => k0_pay16 (k0_pay15 w) r) rfl rfl rfl) $$ H; iintro H
  iapply (mid_hop m ρ K c 6 10 10 11 6 7 rfl rfl rfl rfl 2 2 (by decide) _ (Fin.ext (k0_dev13_eq c)) rfl rfl rfl rfl (v := fun w r => k0_pay17 w r) rfl rfl rfl) $$ H; iintro H
  iapply (mid_hop m ρ K c 7 11 11 12 7 8 rfl rfl rfl rfl 2 3 (by decide) _ (Fin.ext (k0_dev14_eq c)) rfl rfl rfl rfl (v := fun w r => k0_pay18 w r) rfl rfl rfl) $$ H; iintro H
  iapply (last_hop m ρ K c 8 3 0 8 9 0 1 rfl rfl rfl rfl rfl rfl rfl rfl (v := fun w r => k0_pay20 (k0_pay19 w) r) rfl) $$ H; iintro H
  iapply (last_hop m ρ K c 9 3 1 9 10 1 2 rfl rfl rfl rfl rfl rfl rfl rfl (v := fun w r => k0_pay22 (k0_pay21 w) r) rfl) $$ H; iintro H
  iapply (last_hop m ρ K c 10 3 2 10 11 2 3 rfl rfl rfl rfl rfl rfl rfl rfl (v := fun w r => k0_pay23 w r) rfl) $$ H; iintro H
  iapply (last_hop m ρ K c 11 3 3 11 12 3 4 rfl rfl rfl rfl rfl rfl rfl rfl (v := fun w r => k0_pay24 w r) rfl) $$ H; iintro H
  iapply (end_wait m ρ K c 0 0 1 rfl rfl rfl rfl) $$ H; iintro H
  iapply (end_wait m ρ K c 1 1 2 rfl rfl rfl rfl) $$ H; iintro H
  iapply (end_wait m ρ K c 2 2 3 rfl rfl rfl rfl) $$ H; iintro H
  iapply (end_wait m ρ K c 3 3 4 rfl rfl rfl rfl) $$ H; iintro H
  iapply (end_wait m ρ K c 4 4 5 rfl rfl rfl rfl) $$ H; iintro H
  iapply (end_wait m ρ K c 5 5 6 rfl rfl rfl rfl) $$ H; iintro H
  iapply (end_wait m ρ K c 6 6 7 rfl rfl rfl rfl) $$ H; iintro H
  iapply (end_wait m ρ K c 7 7 8 rfl rfl rfl rfl) $$ H; iintro H
  iapply (end_wait m ρ K c 8 8 9 rfl rfl rfl rfl) $$ H; iintro H
  iapply (end_wait m ρ K c 9 9 10 rfl rfl rfl rfl) $$ H; iintro H
  iapply (end_wait m ρ K c 10 10 11 rfl rfl rfl rfl) $$ H; iintro H
  iapply (end_wait m ρ K c 11 11 12 rfl rfl rfl rfl) $$ H; iintro H
  -- the end
  unfold running
  icases H with ⟨-, -, HS, HV, HO, Hp, Ho⟩
  rw [wp_ret]; imodintro
  iapply Hk
  unfold bodyEnd
  isplitl [HzB]; · iexact HzB
  isplitl [HS]; · iexact HS
  isplitl [HV]; · iexact HV
  isplitl [HO]; · rw [owedFrom_last]; iexact HO
  isplitl [Hp]; · iexact Hp
  isplitl [Hx]; · iexact Hx
  isplitl [Hdy]; · iexact Hdy
  iapply (outPts_full m ρ c); iexact Ho

end Cert.RingProof

end
-- ==== Proof.Start.lean ====
/-
# 01_k — `Start`: what the launch gives a device's body and takes back from it

The two transfer buffers come whole and are dealt out slot by slot; after the run the slots join again. With that the body's
run of `Body` is the obligation the pipeline asks for at its one grid point.
-/
module

public import proofs.«01_k».proof.Proof.Body
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.RingProof

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## A buffer whole and in slots -/

/-- Buffer `b` of device `c` whole at some contents. -/
abbrev someBuf (c : Dev nD) (b : Ref sig .tc) : sProp 𝕄 :=
  iprop(∃ f : Buf (Elt F) ((c : Thread nD τ).loc b), ((c : Thread nD τ).loc b) ↦{fullShare} f)

/-- The places of a slot in the send buffer, -/
theorem snd_set (i : Fin 12) : (sndM.access (slotRect i)).set = (slotRect i).set := View.set_slice_whole _ _
/-- and in the landing buffer. -/
theorem rcv_set (i : Fin 12) : (rcvM.access (slotRect i)).set = (slotRect i).set := View.set_slice_whole _ _

/-- The send buffer dealt out in slots; -/
theorem snd_split (c : Dev nD) : someBuf (F := F) c cc0_scratch1 ⊢ (bigSep Finset.univ fun i : Fin 12 => slotAny (F := F) sndM c i : sProp 𝕄) := by
  have h (f : Buf (Elt F) ((c : Thread nD τ).loc cc0_scratch1)) : (((c : Thread nD τ).loc cc0_scratch1) ↦{fullShare} f : sProp 𝕄)
      ⊢ bigSep Finset.univ fun i : Fin 12 => slotAny (F := F) sndM c i := by
    rw [Ring.pointsTo_blocks (ℓ := (c : Thread nD τ).loc cc0_scratch1) (fun i : Fin 12 => (slotRect i).set) slot_disjoint slot_cover]
    refine bigSep_mono fun i _ => ?_
    show _ ⊢ slotAny sndM c i
    unfold slotAny slotPts
    rw [snd_set]
    iintro H; iexists f; iexact H
  iintro ⟨%f, H⟩
  iapply (h f); iexact H
/-- the landing buffer dealt out in slots; -/
theorem rcv_split (c : Dev nD) : someBuf (F := F) c cc0_scratch2 ⊢ (bigSep Finset.univ fun i : Fin 12 => slotAny (F := F) rcvM c i : sProp 𝕄) := by
  have h (f : Buf (Elt F) ((c : Thread nD τ).loc cc0_scratch2)) : (((c : Thread nD τ).loc cc0_scratch2) ↦{fullShare} f : sProp 𝕄)
      ⊢ bigSep Finset.univ fun i : Fin 12 => slotAny (F := F) rcvM c i := by
    rw [Ring.pointsTo_blocks (ℓ := (c : Thread nD τ).loc cc0_scratch2) (fun i : Fin 12 => (slotRect i).set) slot_disjoint slot_cover]
    refine bigSep_mono fun i _ => ?_
    show _ ⊢ slotAny rcvM c i
    unfold slotAny slotPts
    rw [rcv_set]
    iintro H; iexists f; iexact H
  iintro ⟨%f, H⟩
  iapply (h f); iexact H

/-- the slots of the send buffer joined; -/
theorem snd_join (c : Dev nD) (f₀ : Buf (Elt F) ((c : Thread nD τ).loc cc0_scratch1)) : (bigSep Finset.univ fun i : Fin 12 => slotAny (F := F) sndM c i : sProp 𝕄) ⊢ someBuf (F := F) c cc0_scratch1 := by
  refine (bigSep_mono fun i _ => ?_).trans
    (Ring.pointsTo_blocks_join_exists (ℓ := (c : Thread nD τ).loc cc0_scratch1) (fun i : Fin 12 => (slotRect i).set) slot_disjoint slot_cover f₀)
  show slotAny sndM c i ⊢ _
  unfold slotAny slotPts
  rw [snd_set]
/-- the slots of the landing buffer joined. -/
theorem rcv_join (c : Dev nD) (f₀ : Buf (Elt F) ((c : Thread nD τ).loc cc0_scratch2)) : (bigSep Finset.univ fun i : Fin 12 => slotAny (F := F) rcvM c i : sProp 𝕄) ⊢ someBuf (F := F) c cc0_scratch2 := by
  refine (bigSep_mono fun i _ => ?_).trans
    (Ring.pointsTo_blocks_join_exists (ℓ := (c : Thread nD τ).loc cc0_scratch2) (fun i : Fin 12 => (slotRect i).set) slot_disjoint slot_cover f₀)
  show slotAny rcvM c i ⊢ _
  unfold slotAny slotPts
  rw [rcv_set]

/-! ## Before and after -/

/-- The duties device `c` pays: one to each neighbour's barrier, and two per transfer. -/
def payToks (c : Dev nD) : sProp 𝕄 :=
  iprop(dutyTok ER (barCell (prv c)) 0 true ∗ dutyTok ER (barCell (nxt c)) 0 false
    ∗ (bigSep Finset.univ fun i : Fin 12 => dutyTok ER (sendCell c i) 0 false)
    ∗ (bigSep Finset.univ fun i : Fin 12 => dutyTok ER (recvCell (nxt c) i) 0 false))

/-- Its positions at its own cells and those duties. -/
def linear (c : Dev nD) : sProp 𝕄 :=
  iprop((atPos ER (barCell c) 0 ∅ 0 ∗ (bigSep Finset.univ fun i : Fin 12 => atPos ER (sendCell c i) 0 ∅ 0)
      ∗ (bigSep Finset.univ fun i : Fin 12 => atPos ER (recvCell c i) 0 ∅ 0)) ∗ payToks c)

/-- What the global step gives device `c`. -/
def given (c : Dev nD) : sProp 𝕄 := iprop(∃ K, records m ρ K ∗ linear c)

/-- What device `c`'s body starts from, buffers apart: that, its credits, and the levels. -/
def start (c : Dev nD) : sProp 𝕄 :=
  iprop(given m ρ c ∗ cred (tallyAt (barCell c) () 2) ∗ (bigSep Finset.univ fun i : Fin 12 => cred (tallyAt (recvCell c i) () N)) ∗ levAts L lv)

/-- The region's invariant before the body: the start and the scratch buffers; -/
def Φ₀ (c : Dev nD) : sProp 𝕄 :=
  iprop(start m ρ c ∗ someBuf (F := F) c cc0_scratch0 ∗ someBuf (F := F) c cc0_scratch1 ∗ someBuf (F := F) c cc0_scratch2)

/-- and after it: every buffer back and every counter at zero. -/
def Φ₁ (c : Dev nD) : sProp 𝕄 :=
  iprop(semVal (barCell c) 0 ∗ sending (F := F) c 12 12 ∗ receiving (F := F) c 12 ∗ partPts m ρ c)

/-- The pipeline's data: both operands staged whole, the result as the ring computes it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => dystg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- The body's start out of the launch's holdings. -/
theorem start_body (K : Dev nD × CellIx → ℕ) (c : Dev nD) :
    iprop((records m ρ K ∗ linear (F := F) c) ∗ (cred (tallyAt (barCell c) () 2) ∗ (bigSep Finset.univ fun i : Fin 12 => cred (tallyAt (recvCell c i) () N)) ∗ levAts L lv)
        ∗ (someBuf (F := F) c cc0_scratch0 ∗ someBuf (F := F) c cc0_scratch1 ∗ someBuf (F := F) c cc0_scratch2) ∗ owing c (O₀ c)
        ∗ (((c : Thread nD τ).loc cc0_stg0_0) ↦{fullShare} xstg m ρ c) ∗ (((c : Thread nD τ).loc cc0_stg1_0) ↦{fullShare} dystg m ρ c)
        ∗ someBuf (F := F) c cc0_stg2_0)
      ⊢ bodyStart m ρ K c := by
  have hout : iprop((bigSep Finset.univ fun i : Fin 12 => slotAny (F := F) sndM c i) ∗ (bigSep Finset.univ fun i : Fin 12 => dutyTok ER (sendCell c i) 0 false)
        ∗ (bigSep Finset.univ fun i : Fin 12 => dutyTok ER (recvCell (nxt c) i) 0 false) ∗ (bigSep Finset.univ fun i : Fin 12 => atPos ER (sendCell c i) 0 ∅ 0))
      ⊢ (bigSep Finset.univ fun i : Fin 12 => outHeld (F := F) c i : sProp 𝕄) := by
    unfold outHeld
    rw [bigSep_sep', bigSep_sep', bigSep_sep']
  have hin : iprop((bigSep Finset.univ fun i : Fin 12 => atPos ER (recvCell c i) 0 ∅ 0) ∗ (bigSep Finset.univ fun i : Fin 12 => cred (tallyAt (recvCell c i) () N)))
      ⊢ receiving (F := F) c 0 := by
    unfold receiving
    rw [← bigSep_sep']
    refine bigSep_mono fun i _ => ?_
    have e : inAtStep (F := F) c 0 i = inWaiting c i := if_neg (Nat.not_lt_zero _)
    rw [e]; unfold inWaiting
    exact .refl _
  unfold bodyStart linear payToks
  iintro ⟨⟨HR, ⟨HaB, HaS, HaV⟩, HtP, HtN, HtS, HtV⟩, ⟨HcB, HcV, HL⟩, ⟨Hp, Hs, Hr⟩, HO, Hx, Hd, Ho⟩
  isplitl [HR]; · iexact HR
  isplitl [HL]; · iexact HL
  isplitl [HaB HcB HtP HtN]
  · isplitl [HaB]; · iexact HaB
    isplitl [HcB]; · iexact HcB
    isplitl [HtP] <;> iassumption
  isplitl [Hs HtS HtV HaS]
  · iapply hout
    isplitl [Hs]; · iapply (snd_split c); iexact Hs
    isplitl [HtS]; · iexact HtS
    isplitl [HtV] <;> iassumption
  isplitl [Hr]; · iapply (rcv_split c); iexact Hr
  isplitl [HaV HcV]
  · iapply hin
    isplitl [HaV] <;> iassumption
  isplitl [HO]; · iexact HO
  isplitl [Hp]; · iexact Hp
  isplitl [Hx]; · iexact Hx
  isplitl [Hd] <;> iassumption

/-! ## The obligation -/

/-- A staging buffer held at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- A whole buffer held at contents, as one points-to. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
/-- Over the three windows a separating product is of three. -/
theorem bigSep_W (Φ : Fin cfg0.W → sProp 𝕄) : bigSep Finset.univ Φ = iprop(Φ (0 : Fin 3) ∗ Φ (1 : Fin 3) ∗ Φ (2 : Fin 3)) := bigSep_W0 Φ

/-- What the body starts from: the invariant and the staged blocks; -/
def obPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- and what it ends with. -/
def obPost (c : Dev nD) : sProp 𝕄 :=
  iprop(Φ₁ m ρ c ∗ (dats m ρ 0 c).owesAt () t0_0.succ
    ∗ stg c cc0_stg0_0 (xstg m ρ c) ∗ stg c cc0_stg1_0 (dystg m ρ c) ∗ stg c cc0_stg2_0 (outAt m ρ c))

/-- The body meets the pipeline's obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  show obPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) (Memref.whole cc0_scratch2) (Memref.isWhole_whole _)
            cc0_scratch3 cc0_scratch4) (fun _ => obPost m ρ c)
  unfold obPre Φ₀ start given
  iintro ⟨⟨⟨⟨%K, Hg⟩, Hrest⟩, Hscr⟩, Ho, ⟨%d0, %g0, %hg0, Hx⟩, ⟨%d1, %g1, %hg1, Hd⟩, ⟨%d2, %g2, %hg2, Hout⟩⟩
  have hx : g0 = xstg m ρ c := by rw [hg0]; unfold Dat.before; rw [if_pos (fetch0_0 t0_0)]; rfl
  have hd : g1 = dystg m ρ c := by rw [hg1]; unfold Dat.before; rw [if_pos (fetch0_1 t0_0)]; rfl
  subst hx; subst hd
  unfold Dat.owesAt Pipeline.owesWithin
  icases Ho with ⟨%W, %hW, HO⟩
  rw [show (dats m ρ 0 c).owed t0_0.castSucc = O₀ c from rfl]
  iapply (run_body m ρ K c fun _ => obPost m ρ c)
  isplitr []
  · iapply (start_body m ρ K c)
    isplitl [Hg]; · iexact Hg
    isplitl [Hrest]; · iexact Hrest
    isplitl [Hscr]; · iexact Hscr
    isplitl [HO]; · unfold owing; iexists W; iexact HO
    isplitl [Hx]; · iexact Hx
    isplitl [Hd]; · iexact Hd
    iexists g2; iexact Hout
  · unfold bodyEnd obPost Φ₁ Dat.owesAt Pipeline.owesWithin owing
    rw [show (dats m ρ 0 c).owed t0_0.succ = 0 from rfl]
    iintro ⟨HB, HS, HV, ⟨%W', HO⟩, Hp, Hx, Hd, Hout⟩
    isplitl [HB HS HV Hp]
    · isplitl [HB]; · iexact HB
      isplitl [HS]; · iexact HS
      isplitl [HV] <;> iassumption
    isplitl [HO]
    · iexists W'; isplitr; · ipureintro; exact fun _ _ => Or.inl trivial
      iexact HO
    isplitl [Hx]
    · iexists _; isplitr; · (ipureintro; rfl)
      iexact Hx
    isplitl [Hd]
    · iexists _; isplitr; · (ipureintro; rfl)
      iexact Hd
    iexists _; isplitr; · (ipureintro; rfl)
    iexact Hout

end Cert.RingProof

end
-- ==== Proof.Launch.lean ====
/-
# 01_k — `Launch`: the ring's cells allocated, the duties dealt around it, and the whole run

At launch every device's barrier, send and receive cells get their invariants; each duty token goes to the device that pays
it; each device's credit is counted from what its neighbours owe. Then every device runs `Start`'s obligation.
-/
module

public import proofs.«01_k».proof.Proof.Start
public import Idealize.ShloMosaic.Lib.Pipeline.CollectiveSegs
public import Idealize.ShloMosaic.Lib.Quiescent

@[expose] public section

set_option maxRecDepth 16384

noncomputable section

namespace Cert.RingProof

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Names of cells -/

/-- Different slots have different send semaphores, -/
theorem sendS_inj {i j : Fin 12} (h : sendS i = sendS j) : i = j :=
  Fin.ext (by have := congrArg Fin.val h; exact Nat.add_left_cancel (show 3 + i.val = 3 + j.val from this))
/-- and different receive semaphores, -/
theorem recvS_inj {i j : Fin 12} (h : recvS i = recvS j) : i = j :=
  Fin.ext (by have := congrArg Fin.val h; exact Nat.add_left_cancel (show 15 + i.val = 15 + j.val from this))
/-- and no send semaphore is a receive semaphore. -/
theorem sendS_ne_recvS (i j : Fin 12) : sendS i ≠ recvS j := fun h => by
  have h' : 3 + i.val = 15 + j.val := congrArg Fin.val h
  have := i.isLt
  omega

/-- The listing of the kernel's own semaphores names none twice, -/
theorem osem_injective : Function.Injective osem := by
  rintro (i | i) (j | j) h
  · rw [sendS_inj (SemLoc.dma.inj h)]
  · exact absurd (SemLoc.dma.inj h) (sendS_ne_recvS i j)
  · exact absurd (SemLoc.dma.inj h).symm (sendS_ne_recvS j i)
  · rw [recvS_inj (SemLoc.dma.inj h)]

/-- nor does that of the ring's cells on a device, -/
theorem csem_injective : Function.Injective csem := by
  rintro (⟨⟩ | k) (⟨⟩ | k') h
  · rfl
  · rcases k' with i | i <;> cases h
  · rcases k with i | i <;> cases h
  · rw [osem_injective h]

/-- nor that of the cells over all devices. -/
theorem kcell_injective : Function.Injective (kcell : Dev nD × CellIx → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- The own semaphores are scoped, none is the pipeline's, and nothing else is scoped. -/
theorem ownSemFacts : Pipeline.OwnSemFacts cfg0.spec osem where
  isScoped := by decide
  inj := osem_injective
  disj := by decide

/-- Every window is held whole. -/
theorem share_eq (c : Dev nD) (w : Fin cfg0.W) : (dats m ρ 0 c).share w = fullShare := by unfold Dat.share; split <;> rfl

/-! ## What is allocated -/

/-- The cells of all devices. -/
def ringCells : Finset (GSem nD τ sig) := Finset.univ.map ⟨kcell, kcell_injective⟩

/-- The duties of a device's own cells: its barrier's two, one of each send cell, one of each receive cell. -/
abbrev TokIx : Type := Bool ⊕ (Fin 12 ⊕ Fin 12)
/-- The duty a token index stands for, -/
abbrev tokOf (cj : Dev nD × TokIx) : GSem nD τ sig × ℕ × Bool := match cj.2 with
  | .inl b => (barCell cj.1, 0, b)
  | .inr k => (((cj.1 : Thread nD τ), osem k), 0, false)

/-- a different one for each, -/
theorem tokOf_injective : Function.Injective (tokOf : Dev nD × TokIx → GSem nD τ sig × ℕ × Bool) := by
  rintro ⟨c, b | k⟩ ⟨c', b' | k'⟩ h
  · have h1 : c = c' := congrArg (fun x : GSem nD τ sig × ℕ × Bool => x.1.1.1) h
    have h2 : b = b' := congrArg (fun x : GSem nD τ sig × ℕ × Bool => x.2.2) h
    rw [h1, h2]
  · have h1 : csem (.inl ()) = csem (.inr k') := congrArg (fun x : GSem nD τ sig × ℕ × Bool => x.1.2) h
    exact absurd (csem_injective h1) (by simp)
  · have h1 : csem (.inr k) = csem (.inl ()) := congrArg (fun x : GSem nD τ sig × ℕ × Bool => x.1.2) h
    exact absurd (csem_injective h1) (by simp)
  · have h1 : c = c' := congrArg (fun x : GSem nD τ sig × ℕ × Bool => x.1.1.1) h
    have h2 : osem k = osem k' := congrArg (fun x : GSem nD τ sig × ℕ × Bool => x.1.2) h
    rw [h1, osem_injective h2]

/-- and all of them. -/
def ringToks : Finset (GSem nD τ sig × ℕ × Bool) := Finset.univ.map ⟨tokOf, tokOf_injective⟩

/-- What the launch starts the algebra at: the pipeline's rounds and the ring's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((dutyTok ER (barCell c) 0 false ∗ dutyTok ER (barCell c) 0 true)
    ∗ (bigSep Finset.univ fun i : Fin 12 => dutyTok ER (sendCell c i) 0 false)
    ∗ (bigSep Finset.univ fun i : Fin 12 => dutyTok ER (recvCell c i) 0 false))

/-- What the launch gives device `c` of the ring. -/
def G (c : Dev nD) : sProp 𝕄 :=
  iprop((bigSep Finset.univ fun k : CellIx => roundState ER (ringRd m ρ) (kcell (c, k)) 0)
    ∗ (bigSep Finset.univ fun k : CellIx => iprop(atPos ER (kcell (c, k)) 0 ∅ 0 ∗ reached ER (kcell (c, k)) 0)) ∗ toks c)

omit [FloatOps F] in
/-- Over the two Booleans a separating product is of two. -/
theorem bigSep_bool (Φ : Bool → sProp 𝕄) : bigSep Finset.univ Φ = iprop(Φ false ∗ Φ true) :=
  bigSep_univ_eq_bigSepL [false, true] (by decide) (by decide) Φ

/-- Over a device's cells: its barrier, its send cells, its receive cells. -/
theorem bigSep_cells (Φ : CellIx → sProp 𝕄) : bigSep Finset.univ Φ
    = iprop(Φ (.inl ()) ∗ (bigSep Finset.univ fun i : Fin 12 => Φ (.inr (.inl i))) ∗ (bigSep Finset.univ fun i : Fin 12 => Φ (.inr (.inr i)))) := by
  rw [bigSep_univ_sum, bigSep_univ_of_subsingleton (), bigSep_univ_sum]; rfl

/-- The ring's part of the launch, dealt by device. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CellIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_bool, bigSep_univ_sum]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: its twelve send and twelve receive cells; -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 12 => semVal (sendCell c i) 0) ∗ (bigSep Finset.univ fun i : Fin 12 => semVal (recvCell c i) 0)) := by
  unfold Pipeline.ownSems0; rw [bigSep_univ_sum]; rfl
omit [FloatOps F] in
/-- and the runtime's barrier semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The counters at zero, one conjunct per cell of the ring. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CellIx => semVal (kcell (c, k)) 0 : sProp 𝕄) := by
  rw [ownSems0_eq, unscopedSems0_eq, bigSep_cells]
  iintro ⟨⟨HS, HV⟩, HB⟩
  isplitl [HB]; · iexact HB
  isplitl [HS] <;> iassumption

/-- Device `c`'s cells get their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CellIx => semVal (kcell (c, k)) 0) ∗ bigSep Finset.univ fun k : CellIx => roundState ER (ringRd m ρ) (kcell (c, k)) 0)
      ⊢ (|={Set.univ}=> bigSep Finset.univ fun k : CellIx => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The duties dealt around the ring: the barrier's `false` and the receive cells' one device to the left, the barrier's
    `true` one device to the right. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => bigSep Finset.univ fun i : Fin 12 => (dutyTok ER (recvCell c i) 0 false : sProp 𝕄))]
  iintro ⟨⟨H1, H2⟩, H3, H4⟩
  isplitl [H2]; · iexact H2
  isplitl [H1]; · iexact H1
  isplitl [H3]; · iexact H3
  iexact H4

/-- What every device knows, given to each beside its own. -/
theorem bigSep_knowing {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The shared records and a device's tokens make what its body starts from. -/
theorem given_intro (K : Dev nD × CellIx → ℕ) (c : Dev nD) : iprop(records m ρ K ∗ linear c) ⊢ given m ρ c := by
  unfold given
  iintro H; iexists K; iexact H

/-- All devices' allocations, as what each device is given. -/
theorem regroup :
    (bigSep Finset.univ fun c : Dev nD => iprop((bigSep Finset.univ fun k : CellIx => iprop(∃ κ : ℕ, cellInv ER (ringRd m ρ) κ (kcell (c, k))))
          ∗ (bigSep Finset.univ fun k : CellIx => iprop(atPos ER (kcell (c, k)) 0 ∅ 0 ∗ reached ER (kcell (c, k)) 0)) ∗ toks c) : sProp 𝕄)
      ⊢ bigSep Finset.univ (given m ρ) := by
  have hlin : iprop((bigSep Finset.univ fun c : Dev nD => bigSep Finset.univ fun k : CellIx => (atPos ER (kcell (c, k)) 0 ∅ 0 : sProp 𝕄))
      ∗ bigSep Finset.univ fun c : Dev nD => payToks c) ⊢ (bigSep Finset.univ fun c : Dev nD => linear c : sProp 𝕄) := by
    rw [← bigSep_sep']
    refine bigSep_mono fun c _ => ?_
    show _ ⊢ linear c
    unfold linear
    rw [← bigSep_cells (fun k : CellIx => (atPos ER (kcell (c, k)) 0 ∅ 0 : sProp 𝕄))]
  rw [bigSep_sep', bigSep_sep', ← bigSep_univ_prod (fun ck : Dev nD × CellIx => iprop(∃ κ : ℕ, cellInv ER (ringRd m ρ) κ (kcell ck))),
    bigSep_congr (s := Finset.univ) (fun (c : Dev nD) _ => bigSep_sep' Finset.univ (fun k : CellIx => (atPos ER (kcell (c, k)) 0 ∅ 0 : sProp 𝕄)) (fun k => reached ER (kcell (c, k)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (ringRd m ρ) κ (kcell ck) : sProp 𝕄))) $$ HI
  icases HK with ⟨%K, #HI⟩
  ihave Htk := (toks_around (F := F)) $$ Htok
  iapply (bigSep_knowing (R := records m ρ K) fun c _ => given_intro m ρ K c)
  isplitr
  · unfold records; isplitl; · iexact HI
    iexact HR
  · iapply hlin
    isplitl [Hat]; · iexact Hat
    iexact Htk

/-- The launch's global step. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (given m ρ) :=
  ((bigSep_mono fun c _ => core_alloc m ρ c).trans (bigSep_fupd _ _)).trans (BI.fupd_mono (regroup m ρ))

/-! ## The credits -/

/-- Barrier cells are the same on the same device only, -/
theorem bar_eq_iff {a b : Dev nD} : Iff (barCell a = barCell b) (a = b) :=
  ⟨fun h => congrArg (fun g : GSem nD τ sig => g.1.1) h, fun h => h ▸ rfl⟩
/-- and receive cells on the same device at the same slot only; -/
theorem recv_eq_iff {a b : Dev nD} {i j : Fin 12} : Iff (recvCell a i = recvCell b j) (a = b ∧ i = j) :=
  ⟨fun h => ⟨congrArg (fun g : GSem nD τ sig => g.1.1) h, recvS_inj (SemLoc.dma.inj (congrArg Prod.snd h))⟩, fun ⟨h, h'⟩ => h ▸ h' ▸ rfl⟩
/-- a receive cell is no barrier cell. -/
theorem recv_ne_bar {a b : Dev nD} {i : Fin 12} : recvCell a i ≠ barCell b := fun h => by
  have h' : SemLoc.dma (recvS i) = SemLoc.reg barS := congrArg Prod.snd h
  cases h'

/-- What a device owes a cell for its transfers from a slot on: one per slot whose landing cell it is. -/
theorem owedFrom_at (d : Dev nD) (g : GSem nD τ sig) :
    owedFrom d 0 g () = ∑ i : Fin 12, if g = recvCell (nxt d) i then N else 0 := by
  unfold owedFrom
  rw [Finset.filter_true_of_mem fun i _ => Nat.zero_le _, Finset.sum_apply, Finsupp.finset_sum_apply]
  refine Finset.sum_congr rfl fun i _ => ?_
  rw [tallyAt_apply]
  exact if_congr (and_iff_left rfl) rfl rfl

/-- What device `d` owes device `c`'s barrier cell: a unit from either neighbour. -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedFrom_at, tallyAt_apply, tallyAt_apply,
    Finset.sum_eq_zero fun i _ => if_neg fun h => recv_ne_bar h.symm, Nat.zero_add]
  congr 1
  · refine if_congr ?_ rfl rfl
    rw [and_iff_left rfl, bar_eq_iff]
    exact ⟨fun h => by rw [h, prv_nxt], fun h => by rw [h, nxt_prv]⟩
  · refine if_congr ?_ rfl rfl
    rw [and_iff_left rfl, bar_eq_iff]
    exact ⟨fun h => by rw [h, nxt_prv], fun h => by rw [h, prv_nxt]⟩

/-- What device `d` owes device `c`'s receive cell `i`: its transfer through that slot, from the left neighbour. -/
theorem owed_recv (d c : Dev nD) (i : Fin 12) : O₀ d (recvCell c i) () = if d = prv c then N else 0 := by
  unfold O₀ O₁
  rw [Pi.add_apply, Finsupp.add_apply, Pi.add_apply, Finsupp.add_apply, owedFrom_at, tallyAt_ne_cell recv_ne_bar,
    tallyAt_ne_cell recv_ne_bar, Finsupp.zero_apply, Nat.add_zero, Nat.add_zero]
  by_cases h : d = prv c
  · subst h
    rw [if_pos rfl, Fintype.sum_eq_single i fun j hj => if_neg fun e => hj (recv_eq_iff.mp e).2.symm, nxt_prv, if_pos rfl]
  · rw [if_neg h]
    exact Finset.sum_eq_zero fun j _ => if_neg fun e => h (by rw [(recv_eq_iff.mp e).1, prv_nxt])

/-- All devices together owe a barrier cell two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- and a receive cell one transfer. -/
theorem launch_recv (c : Dev nD) (i : Fin 12) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (prv c) fun _ => N,
    if_pos (Finset.mem_univ _)]

/-- The launch's credit of device `c`: two units of its barrier, a transfer's units of each receive cell. -/
theorem creds (c : Dev nD) :
    (Pipeline.launchCred O₀ c : sProp 𝕄)
      ⊢ iprop(cred (tallyAt (barCell c) () 2) ∗ (bigSep Finset.univ fun i : Fin 12 => cred (tallyAt (recvCell c i) () N))) := by
  unfold Pipeline.launchCred
  refine (bigSep_along (J := Unit ⊕ Fin 12) (fun | .inl _ => some (SemLoc.reg barS) | .inr i => some (SemLoc.dma (recvS i))) ?_ _).trans ?_
  · rintro (⟨⟩ | i) (⟨⟩ | j) s h h'
    · rfl
    · exact absurd ((Option.some.inj h).trans (Option.some.inj h').symm) (fun e => by cases e)
    · exact absurd ((Option.some.inj h).trans (Option.some.inj h').symm) (fun e => by cases e)
    · rw [recvS_inj (SemLoc.dma.inj ((Option.some.inj h).trans (Option.some.inj h').symm))]
  · rw [bigSep_univ_sum, bigSep_univ_of_subsingleton ()]
    rw [← launch_bar]
    refine sep_mono_right (Q := bigSep Finset.univ fun i : Fin 12 => _) ?_
    refine bigSep_mono fun i _ => ?_
    rw [← launch_recv]
    exact .refl _

/-! ## The run -/

/-- At the start: the credits and the shared records are what the body's start asks. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

/-- With the scratch buffers they are the region's first invariant. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

/-- The last invariant gives the buffers back and every counter at zero. -/
theorem phi1_exit (c : Dev nD) :
    (dats m ρ 0 c).Φ (Fin.last cfg0.N) ⊢ iprop(unscopedSems0 c ∗ Pipeline.ownSems0 osem c ∗ Pipeline.scopedRest cfg0.spec c) := by
  have hout : sending (F := F) c 12 12
      ⊢ iprop((bigSep Finset.univ fun i : Fin 12 => slotAny (F := F) sndM c i) ∗ (bigSep Finset.univ fun i : Fin 12 => semVal (sendCell c i) 0)) := by
    unfold sending
    rw [← bigSep_sep']
    refine bigSep_mono fun i _ => ?_
    have e : outAtStep (F := F) c 12 12 i = outDone c i := if_pos i.isLt
    rw [e]; unfold outDone
    exact .refl _
  have hin : receiving (F := F) c 12
      ⊢ iprop((bigSep Finset.univ fun i : Fin 12 => slotAny (F := F) rcvM c i) ∗ (bigSep Finset.univ fun i : Fin 12 => semVal (recvCell c i) 0)) := by
    unfold receiving
    rw [← bigSep_sep']
    refine bigSep_mono fun i _ => ?_
    have e : inAtStep (F := F) c 12 i = inDone c i := if_pos i.isLt
    rw [e]; unfold inDone
    exact .refl _
  rw [show (dats m ρ 0 c).Φ (Fin.last cfg0.N) = Φ₁ m ρ c from rfl, scopedRest0_eq, ownSems0_eq, unscopedSems0_eq]
  unfold Φ₁ partPts
  iintro ⟨HB, HS, HV, Hp⟩
  ihave HS' := hout $$ HS
  ihave HV' := hin $$ HV
  icases HS' with ⟨HS, HzS⟩
  icases HV' with ⟨HV, HzV⟩
  isplitl [HB]; · iexact HB
  isplitl [HzS HzV]
  · isplitl [HzS] <;> iassumption
  isplitl [Hp]; · iexists (part m ρ c); iexact Hp
  isplitl [HS]
  · iapply (snd_join (F := F) c (m _)); iexact HS
  · iapply (rcv_join (F := F) c (m _)); iexact HV

/-- The pipeline's own waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Window `w`'s array of device `c` after the run. -/
def finalA (c : Dev nD) (w : Fin cfg0.W) : Buf (Elt F) ((cfg0.win w).arr.view.loc (c : Thread nD τ)) := (dats m ρ 0 c).arrAt w cfg0.N

/-- After the run every array is as computed. -/
def QC : PUnit × MemSt nD τ sig (Elt F) → Prop := fun r =>
  ∀ c : Dev nD, ∀ w : Fin cfg0.W, r.2.mem ((cfg0.win w).arr.view.loc (c : Thread nD τ)) = finalA m ρ c w

/-- On the mesh of 32 devices, for any float values, from any memory with zero counters: every fair execution of the program
    ends, each device's arrays as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := given m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two arguments after the run hold what they held. -/
theorem finalA_x (c : Dev nD) : finalA m ρ c (0 : Fin 3) = m ((c : Thread nD τ).loc main_arg0) :=
  (dats (F := F) m ρ 0 c).arrAt_in (0 : Fin 3) rfl _
/-- and so does `dy`. -/
theorem finalA_dy (c : Dev nD) : finalA m ρ c (1 : Fin 3) = m ((c : Thread nD τ).loc main_arg1) :=
  (dats (F := F) m ρ 0 c).arrAt_in (1 : Fin 3) rfl _

end Cert.RingProof

end
-- ==== Proof.Frames.lean ====
/-
# 01_k — `Frames`: all three programs run, leave their arguments alone and end quiescent

The kernel and its idealization have the same text, so the one run of `Launch`, for any float values, serves both.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 16384

noncomputable section

namespace Cert.RingProof

open Idealize.ShloMosaic Idealize.ShloMosaic.TcCoe Idealize.SL.Sem

variable {F : FTy → Type} [FloatOps F]

/-- The two texts have the same bodies, -/
theorem bodies_same : Kernel.defs₀ (F := F) = KernelIdeal.defs₀ (F := F) := by
  unfold Kernel.defs₀ KernelIdeal.defs₀
  refine congrArg (Defs.onTc (nD := KernelIdeal.nD) (τ := KernelIdeal.τ) (sig := KernelIdeal.sig) (Val := Elt F) (Λ := KernelIdeal.Λ₀)) ?_
  funext l x
  match l, x with
  | 0, (t, s) => rfl
  | ⟨_ + 1, h⟩, _ => exact absurd h (Nat.not_lt.2 (Nat.le_add_left _ _))

/-- and the same calls of them. -/
theorem calls_same : Kernel.defs (F := F) = KernelIdeal.defs (F := F) := by
  unfold Kernel.defs KernelIdeal.defs
  exact congrArg (Pipeline.defs (KernelIdeal.pcfgs (F := F))) bodies_same

/-- A run of the ring leaves both arguments alone. -/
theorem args_kept (m : (ℓ : Loc KernelIdeal.nD KernelIdeal.τ KernelIdeal.sig) → Buf (Elt F) ℓ) (ρ : Dev KernelIdeal.nD → PrngReg)
    {r : PUnit × MemSt KernelIdeal.nD KernelIdeal.τ KernelIdeal.sig (Elt F)} (h : QC m ρ r) (c : Dev KernelIdeal.nD) :
    r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1) :=
  ⟨(h c (0 : Fin 3)).trans (finalA_x m ρ c), (h c (1 : Fin 3)).trans (finalA_dy m ρ c)⟩

/-- The idealized kernel; -/
theorem frame_kernelIdeal : Cert.quiescent_KernelIdeal := fun m ρ _ =>
  (θ_run KernelIdeal.defs _ _).mono (fun _ h => ⟨fun c => args_kept m ρ h.1 c, h.2⟩) (run_main (F := Ideal) m ρ)

/-- the kernel; -/
theorem frame_kernel : Cert.quiescent_Kernel := fun m ρ _ => by
  rw [calls_same]
  exact (θ_run KernelIdeal.defs _ _).mono (fun _ h => ⟨fun c => args_kept m ρ h.1 c, h.2⟩) (run_main (F := Bits) m ρ)

/-- the reference, which has no semaphore. -/
theorem frame_referenceIdeal : Cert.quiescent_ReferenceIdeal := fun m ρ _ =>
  (θ_run ReferenceIdeal.defs _ _).mono (fun r h => ⟨fun c => (h c).2, sem_eq_zero_of_no_sems rfl r.2⟩)
    (ReferenceIdeal.Value.run (F := Ideal) m ρ)

end Cert.RingProof

end
-- ==== Proof.Value.lean ====
/-
# 01_k — `Value`: what the ring leaves in the result, over the extended reals

Over the extended reals the conversions between the two float widths change nothing and a product is a sum of products. So
the rows a device keeps are the sum, over the four devices of its ring, of the same rows of their partial products: the
three hops add them in ring order.
-/
module

public import proofs.«01_k».proof.Proof.Launch
public import Idealize.ShloMosaic.Lib.Pointwise.Tactic
public import Idealize.ShloMosaic.Lib.Pointwise.Reshape
public import Idealize.ShloMosaic.Lib.Pointwise.Contract

@[expose] public section

set_option maxRecDepth 16384

noncomputable section

namespace Cert.RingProof

open Cert.KernelIdeal Cert.KernelIdeal.Gen

open Idealize.ShloMosaic Idealize.ShloMosaic.TcCoe Idealize.SL.Sem
open Idealize.ShloMosaic.Pipeline (Dat)

/-! ## The arrays and their one block -/

section Any
variable {F : FTy → Type} [FloatOps F]
variable (m : (ℓ : Loc nD τ sig) → Buf (Elt F) ℓ) (ρ : Dev nD → PrngReg)

/-- The staged block of `x` is the whole argument, -/
theorem xstg_eq (c : Dev nD) : xstg m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
/-- and so is that of `dy`. -/
theorem dystg_eq (c : Dev nD) : dystg m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _

/-- The result array ends as the one write-back leaves it. -/
theorem finalA_out (c : Dev nD) : finalA m ρ c (2 : Fin 3) = outAt m ρ c := by
  have hz : (fun a => win0_2.index (0 : Fin 1) a * main_v1.ty.shape.size a) = fun _ => 0 := funext fun a => by fin_cases a <;> decide
  refine (dats m ρ 0 c).arrAt_eq_of_cover (2 : Fin 3) (outAt m ρ c) (fun t _ => ?_) fun i => ⟨(0 : Fin 1), flush0_2 _, ?_⟩
  · obtain rfl : t = (0 : Fin 1) := Subsingleton.elim (α := Fin 1) _ _
    exact (Memref.read_access_unit_zero (Elt F) main_v1 hz (fun a => by rw [congrFun hz a]; simp) (outAt m ρ c)).symm
  · show i ∈ ((View.whole main_v1).slice (win0_2.rect (0 : Fin 1))).set
    rw [View.set_slice_whole]
    exact View.mem_set_unit_zero hz (fun a => by rw [congrFun hz a]; simp) i

/-- The place of an entry of the rows hop `s`, quarter `q` adds. -/
theorem rows_apply (c : Dev nD) (s q : Fin 4) (i : Fin 32) (k : Fin 2048) :
    rows m ρ c s q (ix2 i k) = part m ρ c (ix2 (⟨128 * ((c.val % 4 + 7 - s.val) % 4) + 32 * q.val + i.val, by omega⟩ : Fin 512) k) := by
  unfold rows
  rw [View.readAt_apply]
  refine congrArg (part m ρ c) ?_
  have h := k0_off1_eq c s q
  refine Shape.idx_ext₂ ?_ ?_
  · show partOff c s q 0 + 1 * i.val = _
    rw [show partOff c s q = _ from h]
    simp
  · show partOff c s q 1 + 1 * k.val = _
    rw [show partOff c s q = _ from h]
    simp

end Any

/-! ## Over the extended reals -/

variable (m : (ℓ : Loc nD τ sig) → Buf (Elt Ideal) ℓ) (ρ : Dev nD → PrngReg)

/-- An entry of a product of two blocks: a sum of products down a column of each. -/
def down (x : S512x512.Idx → EReal) (y : S512x2048.Idx → EReal) (a : Fin 512) (k : Fin 2048) : EReal :=
  ∑ t : Fin 512, x (ix2 t a) * y (ix2 t k)

/-- The kernel's product of two blocks, at an entry. -/
theorem pay2_apply (x : Vec Ideal S512x512 .bf16) (y : Vec Ideal S512x2048 .bf16) (a : Fin 512) (k : Fin 2048) :
    k0_pay2 (k0_pay1 x) y (ix2 a k) = down x y a k := by
  unfold k0_pay1 k0_pay2 down
  pointwise

/-- So is an entry of a device's partial product. -/
theorem part_apply (c : Dev nD) (a : Fin 512) (k : Fin 2048) :
    part m ρ c (ix2 a k) = down (m ((c : Thread nD τ).loc main_arg0)) (m ((c : Thread nD τ).loc main_arg1)) a k := by
  unfold part
  rw [xstg_eq, dystg_eq]
  exact pay2_apply _ _ a k

/-- What a first hop sends: its rows. -/
theorem pay3_apply (v : Vec Ideal S32x2048 .f32) (i : Fin 32) (k : Fin 2048) : k0_pay3 v (ix3 (0 : Fin 1) i k) = v (ix2 i k) := by
  unfold k0_pay3
  pointwise
/-- What a later hop sends: what arrived and its rows. -/
theorem pay10_apply (u : Vec Ideal S1x32x2048 .bf16) (v : Vec Ideal S32x2048 .f32) (i : Fin 32) (k : Fin 2048) :
    k0_pay10 u v (ix3 (0 : Fin 1) i k) = u (ix3 (0 : Fin 1) i k) + v (ix2 i k) := by
  unfold k0_pay10
  pointwise
/-- What the last arrival makes with the device's own rows. -/
theorem pay23_apply (u : Vec Ideal S1x32x2048 .bf16) (v : Vec Ideal S32x2048 .f32) (i : Fin 32) (k : Fin 2048) :
    k0_pay23 u v (ix2 i k) = u (ix3 (0 : Fin 1) i k) + v (ix2 i k) := by
  unfold k0_pay23
  pointwise

/-! ## Round the ring -/

/-- Row `r` of row block `b` of a partial product. -/
abbrev blockRow (b : Fin 4) (r : Fin 128) : Fin 512 := ⟨128 * b.val + r.val, by omega⟩

/-- A device's place on its ring. -/
def place (c : Dev nD) : Fin 4 := ⟨c.val % 4, Nat.mod_lt _ (by decide)⟩

/-- The left neighbour is one place back. -/
theorem place_prv (c : Dev nD) : place (prv c) = place c - 1 := by
  revert c; decide

/-- The sum of an entry over a device and the `s` devices to its left, the farthest first. -/
def around (a : Fin 512) (k : Fin 2048) : ℕ → Dev nD → EReal
  | 0, c => part m ρ c (ix2 a k)
  | s + 1, c => around a k s (prv c) + part m ρ c (ix2 a k)

/-- The rows hop `s` adds on device `c` are those of block `z - s - 1`. -/
theorem rows_block (c : Dev nD) (s q b : Fin 4) (i : Fin 32) (k : Fin 2048) (r : Fin 128)
    (hb : (c.val % 4 + 7 - s.val) % 4 = b.val) (hr : r.val = 32 * q.val + i.val) :
    rows m ρ c s q (ix2 i k) = part m ρ c (ix2 (blockRow b r) k) := by
  rw [rows_apply]
  congr 2
  exact Fin.ext (by simp only [hb, hr]; omega)

/-- What device `c` sends in hop `s`: the sum, over itself and the `s` devices to its left, of their rows of block
    `z - s - 1`. -/
theorem sentAt_apply (q b : Fin 4) (i : Fin 32) (k : Fin 2048) (r : Fin 128) (hr : r.val = 32 * q.val + i.val) :
    ∀ s : ℕ, s < 4 → ∀ c : Dev nD, (c.val % 4 + 7 - s) % 4 = b.val →
      sentAt m ρ q s c (ix3 (0 : Fin 1) i k) = around m ρ (blockRow b r) k s c
  | 0, _, c, hb => (pay3_apply _ i k).trans (rows_block m ρ c 0 q b i k r hb hr)
  | s + 1, hs, c, hb => by
    have hv : (Fin.ofNat 4 (s + 1)).val = s + 1 := Nat.mod_eq_of_lt hs
    have hp : (prv c).val % 4 = (c.val % 4 + 3) % 4 := by simp only [prv]; omega
    refine (pay10_apply _ _ i k).trans ?_
    rw [sentAt_apply q b i k r hr s (by omega) (prv c) (by omega), rows_block m ρ c (Fin.ofNat 4 (s + 1)) q b i k r (by rw [hv]; exact hb) hr]
    rfl

/-- The result on device `c`: its own row block of the partial products, summed round the ring. -/
theorem outAt_apply (c : Dev nD) (r : Fin 128) (k : Fin 2048) :
    outAt m ρ c (ix2 r k) = around m ρ (blockRow (place c) r) k 3 c := by
  have hr : r.val = 32 * (r.val / 32) + r.val % 32 := by omega
  have hp : (prv c).val % 4 = (c.val % 4 + 3) % 4 := by simp only [prv]; omega
  refine (pay23_apply _ _ _ k).trans ?_
  have h₁ := sentAt_apply m ρ ⟨r.val / 32, by omega⟩ (place c) ⟨r.val % 32, by omega⟩ k r hr 2 (by decide) (prv c)
    (by simp only [place]; omega)
  have h₂ := rows_block m ρ c 3 ⟨r.val / 32, by omega⟩ (place c) ⟨r.val % 32, by omega⟩ k r
    (by simp only [place]; show (c.val % 4 + 7 - 3) % 4 = _; omega) hr
  exact congrArg₂ (fun u v : EReal => u + v) h₁ h₂

end Cert.RingProof

end
-- ==== Proof.Equation.lean ====
/-
# 01_k — `Equation`: over the extended reals the kernel computes the reference's product

The reference multiplies the whole arrays: each entry is a sum of 2048 products. The 2048 rows are cut in four blocks along
the mesh's last axis, and the four devices of a ring hold one block each: the kernel's sum round the ring is that sum,
block by block, in another order.
-/
module

public import proofs.«01_k».proof.Defs
public import proofs.«01_k».proof.Proof.Frames
public import proofs.«01_k».proof.Proof.Value
public import Idealize.ShloMosaic.Lib.Pointwise.ShapeOps

@[expose] public section

set_option maxRecDepth 16384

noncomputable section

namespace Cert.RingProof

open Idealize.ShloMosaic Idealize.ShloMosaic.TcCoe Idealize.SL.Sem

/-! ## The sum of 2048 products, in four blocks -/

/-- Row `t` of block `b` of the 2048. -/
abbrev longRow (b : Fin 4) (t : Fin 512) : Fin 2048 := ⟨b.val * 512 + t.val, by omega⟩

/-- A sum over 2048 rows is the sum over the four blocks of the sums over their rows. -/
theorem sum_blocks (f : Fin 2048 → EReal) : ∑ t, f t = ∑ b : Fin 4, ∑ t : Fin 512, f (longRow b t) := by
  rw [← Fintype.sum_prod_type' (fun b t => f (longRow b t))]
  refine (Fintype.sum_equiv (finProdFinEquiv (m := 4) (n := 512)) _ f fun p => congrArg f (Fin.ext ?_)).symm
  show p.1.val * 512 + p.2.val = p.2.val + 512 * p.1.val
  omega

/-- The four places counted back from any of them are all four. -/
theorem sum_back (g : Fin 4 → EReal) (z : Fin 4) : g (z - 1 - 1 - 1) + g (z - 1 - 1) + g (z - 1) + g z = ∑ b, g b := by
  rw [← Equiv.sum_comp (Equiv.subLeft z) g, Fin.sum_univ_four]
  simp only [Equiv.subLeft_apply, sub_sub, sub_zero]
  rw [show (1 + 1 + 1 : Fin 4) = 3 from rfl, show (1 + 1 : Fin 4) = 2 from rfl]
  abel

/-! ## A device's block of an array cut along the rows -/

/-- Along the mesh's last axis, a device's block of `H` rows cut in four: row `t` of the block is row `z · h + t` of the
    array, `z` the device's place on its ring. -/
theorem block_rows {α : Type} {h w H : ℕ} (X : (⟨2, ![H, w]⟩ : Shape).Idx → α) (c : Dev KernelIdeal.nD)
    (T : Layout.TilesN ⟨2, ![h, w]⟩ ⟨2, ![H, w]⟩ (fun b => Layout.cutSize [2, 4, 4] ((![[2], []] : Fin 2 → List ℕ) b)))
    (t : Fin h) (a : Fin w) (u : Fin H) (hu : u.val = (place c).val * h + t.val) :
    Layout.blockN ⟨2, ![h, w]⟩ ⟨2, ![H, w]⟩ (Layout.meshBlock [2, 4, 4] ![[2], []] c) X T (ix2 t a) = X (ix2 u a) := by
  rw [Layout.blockN_apply]
  refine congrArg X (Shape.idx_ext₂ ?_ ?_)
  · rw [Layout.TilesN.idx_val]
    simp [Layout.meshBlock_val, Layout.meshLin, Layout.meshCoord, Layout.cutSize, hu, place]
  · rw [Layout.TilesN.idx_val]
    simp [Layout.meshBlock_val, Layout.meshLin, Layout.cutSize]

/-! ## The two values -/

/-- The reference's result. -/
def whole (X : (⟨2, ![2048, 512]⟩ : Shape).Idx → EReal) (Y : (⟨2, ![2048, 2048]⟩ : Shape).Idx → EReal) :
    Buf (Elt Ideal) ((0 : Dev ReferenceIdeal.nD).tc.loc (τ := ReferenceIdeal.τ) ReferenceIdeal.main_v3) :=
  Host.dotGeneral (F := Ideal) (φ₁ := .f32) (φ₂ := .f32) ReferenceIdeal.dot_S512x2048_S2048x2048_S512x2048_1_0_0_1_n_n none
    (transpose ReferenceIdeal.S512x2048 [1, 0] (extf (F := Ideal) (φ := .bf16) .f32 X ReferenceIdeal.Gen.bitsLt_bf16_f32)
      ReferenceIdeal.Gen.transposes_S2048x512_S512x2048_1_0)
    (extf (F := Ideal) (φ := .bf16) .f32 Y ReferenceIdeal.Gen.bitsLt_bf16_f32)

/-- At an entry: a sum of 2048 products down a column of each argument. -/
theorem whole_apply (X : (⟨2, ![2048, 512]⟩ : Shape).Idx → EReal) (Y : (⟨2, ![2048, 2048]⟩ : Shape).Idx → EReal)
    (a : Fin 512) (k : Fin 2048) : whole X Y (ix2 a k) = ∑ t : Fin 2048, X (ix2 t a) * Y (ix2 t k) := by
  unfold whole
  pointwise

/-- The part of that sum over block `b` of the 2048 rows. -/
def seg (X : (⟨2, ![2048, 512]⟩ : Shape).Idx → EReal) (Y : (⟨2, ![2048, 2048]⟩ : Shape).Idx → EReal)
    (a : Fin 512) (k : Fin 2048) (b : Fin 4) : EReal :=
  ∑ t : Fin 512, X (ix2 (longRow b t) a) * Y (ix2 (longRow b t) k)

section Ring
variable (m : (ℓ : Loc KernelIdeal.nD KernelIdeal.τ KernelIdeal.sig) → Buf (Elt Ideal) ℓ) (ρ : Dev KernelIdeal.nD → PrngReg)
variable (X : (⟨2, ![2048, 512]⟩ : Shape).Idx → EReal) (Y : (⟨2, ![2048, 2048]⟩ : Shape).Idx → EReal)
variable (hX : ∀ c : Dev KernelIdeal.nD, m ((c.tc : Thread KernelIdeal.nD KernelIdeal.τ).loc KernelIdeal.main_arg0)
  = Layout.blockN ⟨2, ![512, 512]⟩ ⟨2, ![2048, 512]⟩ (Layout.meshBlock [2, 4, 4] ![[2], []] c) X)
variable (hY : ∀ c : Dev KernelIdeal.nD, m ((c.tc : Thread KernelIdeal.nD KernelIdeal.τ).loc KernelIdeal.main_arg1)
  = Layout.blockN ⟨2, ![512, 2048]⟩ ⟨2, ![2048, 2048]⟩ (Layout.meshBlock [2, 4, 4] ![[2], []] c) Y)

include hX hY

/-- A device's partial product is the sum over its block of the 2048 rows. -/
theorem part_block (c : Dev KernelIdeal.nD) (a : Fin 512) (k : Fin 2048) :
    part m ρ c (ix2 a k) = seg X Y a k (place c) := by
  refine (part_apply m ρ c a k).trans ?_
  rw [hX c, hY c]
  exact Finset.sum_congr (M := EReal) rfl fun t _ => congrArg₂ (fun u v : EReal => u * v) (block_rows X c _ t a _ rfl) (block_rows Y c _ t k _ rfl)

/-- The result on a device is its block of the reference's. -/
theorem out_block (c : Dev KernelIdeal.nD) :
    outAt m ρ c = Layout.blockN ⟨2, ![128, 2048]⟩ ⟨2, ![512, 2048]⟩ (Layout.meshBlock [2, 4, 4] ![[2], []] c) (whole X Y) := by
  funext j
  obtain ⟨r, k, rfl⟩ : ∃ (r : Fin 128) (k : Fin 2048), j = ix2 r k := ⟨j 0, j 1, eq_ix2 j⟩
  refine (outAt_apply m ρ c r k).trans ?_
  refine Eq.trans ?_ (block_rows (whole X Y) c (by decide) r k (blockRow (place c) r) (by simp only [blockRow]; omega)).symm
  rw [whole_apply, sum_blocks]
  refine Eq.trans ?_ (sum_back (seg X Y (blockRow (place c) r) k) (place c))
  simp only [around, part_block m ρ X Y hX hY, place_prv]

end Ring

/-- Over the extended reals the kernel's results are the blocks of the reference's. -/
theorem algebraic : Cert.algebraic_KernelIdeal_ReferenceIdeal := fun m g m' g' _ hargs =>
  ⟨whole (m' ((0 : Dev ReferenceIdeal.nD).tc.loc ReferenceIdeal.main_arg0)) (m' ((0 : Dev ReferenceIdeal.nD).tc.loc ReferenceIdeal.main_arg1)),
    (θ_run KernelIdeal.defs _ _).mono (fun _ h c =>
      ⟨((h.1 c (2 : Fin 3)).trans (finalA_out m g c)).trans (out_block m g _ _ (fun c => (hargs c).1) (fun c => (hargs c).2) c), args_kept m g h.1 c⟩)
      (run_main (F := Ideal) m g),
    (θ_run ReferenceIdeal.defs _ _).mono (fun _ h => h 0) (ReferenceIdeal.Value.run (F := Ideal) m' g')⟩

end Cert.RingProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed: the three programs end quiescent with their arguments kept, the idealization rewrites nothing, and
    over the extended reals the kernel computes the reference's product. -/
theorem claim : Cert.Claim :=
  ⟨Cert.Kernel.Gen.facts, Cert.KernelIdeal.Gen.facts, Cert.ReferenceIdeal.Gen.facts, RingProof.frame_kernel,
    RingProof.frame_kernelIdeal, RingProof.frame_referenceIdeal, trivial, RingProof.algebraic⟩

end Cert.Proof

end
